-- ==== Defs.lean ====
def Pre_Kernel [hPre_index_range : Cert.Pre_index_range.Facts] (m : (ℓ : Loc Cert.Kernel.nD Cert.Kernel.τ Cert.Kernel.sig) → Buf (Elt Bits) ℓ) : Prop :=
  ∀ c : Dev Cert.Kernel.nD,
    (Cert.Pre_index_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_index_range : Cert.Pre_index_range.Facts] (m : (ℓ : Loc Cert.KernelIdeal.nD Cert.KernelIdeal.τ Cert.KernelIdeal.sig) → Buf (Elt Ideal) ℓ) : Prop :=
  ∀ c : Dev Cert.KernelIdeal.nD,
    (Cert.Pre_index_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_KernelIdeal_distinct_upper [hPre_distinct_upper : Cert.Pre_distinct_upper.Facts] (m : (ℓ : Loc Cert.KernelIdeal.nD Cert.KernelIdeal.τ Cert.KernelIdeal.sig) → Buf (Elt Ideal) ℓ) : Prop :=
  ∀ c : Dev Cert.KernelIdeal.nD,
    (Cert.Pre_distinct_upper.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_distinct_upper [hPre_distinct_upper : Cert.Pre_distinct_upper.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_distinct_upper.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] [hPre_index_range : Cert.Pre_index_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] [hPre_index_range : Cert.Pre_index_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_distinct_upper [hKernelIdeal : Cert.KernelIdeal.Facts] [hPre_distinct_upper : Cert.Pre_distinct_upper.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_distinct_upper m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_distinct_upper [hReferenceIdeal : Cert.ReferenceIdeal.Facts] [hPre_distinct_upper : Cert.Pre_distinct_upper.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_distinct_upper m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_distinct_upper [hKernelIdeal : Cert.KernelIdeal.Facts] [hReferenceIdeal : Cert.ReferenceIdeal.Facts] [hPre_distinct_upper : Cert.Pre_distinct_upper.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_distinct_upper m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v66_0)) (v1 : (c : Dev Cert.KernelIdeal.nD) → Buf (Elt Ideal) ((c.tc : Thread Cert.KernelIdeal.nD Cert.KernelIdeal.τ).loc Cert.KernelIdeal.main_v66_1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v66_0) = v0 c
          ∧ r.2.mem ((c.tc : Thread Cert.KernelIdeal.nD Cert.KernelIdeal.τ).loc Cert.KernelIdeal.main_v66_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v76) = v0 c
          ∧ r.2.mem ((c.tc : Thread Cert.ReferenceIdeal.nD Cert.ReferenceIdeal.τ).loc Cert.ReferenceIdeal.main_v123) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_index_range : Cert.Pre_index_range.Facts) (hPre_distinct_upper : Cert.Pre_distinct_upper.Facts),
    quiescent_Kernel (hKernel := hKernel) (hPre_index_range := hPre_index_range)
    ∧ quiescent_KernelIdeal (hKernelIdeal := hKernelIdeal) (hPre_index_range := hPre_index_range)
    ∧ quiescent_KernelIdeal_pre_distinct_upper (hKernelIdeal := hKernelIdeal) (hPre_distinct_upper := hPre_distinct_upper)
    ∧ quiescent_ReferenceIdeal (hReferenceIdeal := hReferenceIdeal)
    ∧ quiescent_ReferenceIdeal_pre_distinct_upper (hReferenceIdeal := hReferenceIdeal) (hPre_distinct_upper := hPre_distinct_upper)
    ∧ preserves_Kernel_KernelIdeal
    ∧ algebraic_KernelIdeal_ReferenceIdeal_pre_distinct_upper (hKernelIdeal := hKernelIdeal) (hReferenceIdeal := hReferenceIdeal) (hPre_distinct_upper := hPre_distinct_upper)
-- ==== Pre_distinct_upper.lean ====
abbrev S2x4096x1024 : Shape := ⟨3, ![2, 4096, 1024]⟩
abbrev S4096 : Shape := ⟨1, ![4096]⟩
abbrev S5237 : Shape := ⟨1, ![5237]⟩
abbrev S512 : Shape := ⟨1, ![512]⟩
abbrev S_ : Shape := ⟨0, ![]⟩
abbrev S5237x1 : Shape := ⟨2, ![5237, 1]⟩
abbrev S1x5237 : Shape := ⟨2, ![1, 5237]⟩
abbrev S5237x5237 : Shape := ⟨2, ![5237, 5237]⟩

class Facts : Prop where
  bcast_S_S5237 : S_.BroadcastsInDim S5237 (![] : Fin 0 → Fin S5237.rank)
  reducesTo_S5237_S_d0 : S5237.ReducesTo [0] S_
  h_S_ : 0 < S_.numel
  bcast_S5237_S5237x1_0 : S5237.BroadcastsInDim S5237x1 (![0] : Fin 1 → Fin S5237x1.rank)
  bcast_S5237_S1x5237_1 : S5237.BroadcastsInDim S1x5237 (![1] : Fin 1 → Fin S1x5237.rank)
  bcast_S5237x1_S5237x5237_0_1 : S5237x1.BroadcastsInDim S5237x5237 (![0, 1] : Fin 2 → Fin S5237x5237.rank)
  bcast_S1x5237_S5237x5237_0_1 : S1x5237.BroadcastsInDim S5237x5237 (![0, 1] : Fin 2 → Fin S5237x5237.rank)
  reducesTo_S5237x5237_S_d0_1 : S5237x5237.ReducesTo [0, 1] S_
  bcast_S_S2x4096x1024 : S_.BroadcastsInDim S2x4096x1024 (![] : Fin 0 → Fin S2x4096x1024.rank)
  reducesTo_S2x4096x1024_S_d0_1_2 : S2x4096x1024.ReducesTo [0, 1, 2] S_
  bcast_S_S4096 : S_.BroadcastsInDim S4096 (![] : Fin 0 → Fin S4096.rank)
  reducesTo_S4096_S_d0 : S4096.ReducesTo [0] S_
  bcast_S_S512 : S_.BroadcastsInDim S512 (![] : Fin 0 → Fin S512.rank)
  reducesTo_S512_S_d0 : S512.ReducesTo [0] S_

variable [Facts]

def fn_part2 {F : FTy → Type} [FloatOps F] (main_arg4 : FVec F S512 .f32) (main_v11 : IVec S_ 1) (main_v23 : IVec S_ 1) (main_v31 : IVec S_ 1) (main_v35 : IVec S_ 1) (main_v36 : FVec F S5237 .f32) (main_cst_8 : FVec F S_ .f32) : IVec S_ 1 :=
  let main_v37 : FVec F S5237 .f32 := broadcastInDim S5237 ![] bcast_S_S5237 main_cst_8
  let main_v38 : IVec S5237 1 := cmpf .olt main_v36 main_v37
  let main_c_9 : IVec S_ 1 := constantI S_ 1 1#1
  let main_v39 : IVec S_ 1 := (fun x v => Host.reduce IntOp.andi x v reducesTo_S5237_S_d0 h_S_) main_v38 main_c_9
  let main_v40 : FVec F S512 .f32 := Host.absf main_arg4
  let main_cst_10 : FVec F S_ .f32 := constant S_ .f32 0x7F800000#32
  let main_v41 : FVec F S512 .f32 := broadcastInDim S512 ![] bcast_S_S512 main_cst_10
  let main_v42 : IVec S512 1 := cmpf .olt main_v40 main_v41
  let main_c_11 : IVec S_ 1 := constantI S_ 1 1#1
  let main_v43 : IVec S_ 1 := (fun x v => Host.reduce IntOp.andi x v reducesTo_S512_S_d0 h_S_) main_v42 main_c_11
  let main_v44 : IVec S_ 1 := andi main_v11 main_v23
  let main_v45 : IVec S_ 1 := andi main_v44 main_v31
  let main_v46 : IVec S_ 1 := andi main_v45 main_v35
  let main_v47 : IVec S_ 1 := andi main_v46 main_v39
  let main_v48 : IVec S_ 1 := andi main_v47 main_v43
  main_v48

def fn_part1 {F : FTy → Type} [FloatOps F] (main_arg0 : FVec F S2x4096x1024 .f32) (main_arg1 : FVec F S2x4096x1024 .f32) (main_arg2 : FVec F S4096 .f32) (main_arg3 : FVec F S5237 .f32) (main_arg4 : FVec F S512 .f32) (main_v11 : IVec S_ 1) (main_v16 : IVec S5237x5237 1) (main_v18 : IVec S1x5237 32) (main_v19 : IVec S5237x5237 32) : IVec S_ 1 :=
  let main_v20 : IVec S5237x5237 32 := broadcastInDim S5237x5237 ![0, 1] bcast_S1x5237_S5237x5237_0_1 main_v18
  let main_v21 : IVec S5237x5237 1 := cmpi .eq main_v19 main_v20
  let main_v22 : IVec S5237x5237 1 := ori main_v16 main_v21
  let main_c_3 : IVec S_ 1 := constantI S_ 1 1#1
  let main_v23 : IVec S_ 1 := (fun x v => Host.reduce IntOp.andi x v reducesTo_S5237x5237_S_d0_1 h_S_) main_v22 main_c_3
  let main_v24 : FVec F S2x4096x1024 .f32 := Host.absf main_arg0
  let main_cst : FVec F S_ .f32 := constant S_ .f32 0x7F800000#32
  let main_v25 : FVec F S2x4096x1024 .f32 := broadcastInDim S2x4096x1024 ![] bcast_S_S2x4096x1024 main_cst
  let main_v26 : IVec S2x4096x1024 1 := cmpf .olt main_v24 main_v25
  let main_v27 : FVec F S2x4096x1024 .f32 := Host.absf main_arg1
  let main_cst_4 : FVec F S_ .f32 := constant S_ .f32 0x7F800000#32
  let main_v28 : FVec F S2x4096x1024 .f32 := broadcastInDim S2x4096x1024 ![] bcast_S_S2x4096x1024 main_cst_4
  let main_v29 : IVec S2x4096x1024 1 := cmpf .olt main_v27 main_v28
  let main_v30 : IVec S2x4096x1024 1 := andi main_v26 main_v29
  let main_c_5 : IVec S_ 1 := constantI S_ 1 1#1
  let main_v31 : IVec S_ 1 := (fun x v => Host.reduce IntOp.andi x v reducesTo_S2x4096x1024_S_d0_1_2 h_S_) main_v30 main_c_5
  let main_v32 : FVec F S4096 .f32 := Host.absf main_arg2
  let main_cst_6 : FVec F S_ .f32 := constant S_ .f32 0x7F800000#32
  let main_v33 : FVec F S4096 .f32 := broadcastInDim S4096 ![] bcast_S_S4096 main_cst_6
  let main_v34 : IVec S4096 1 := cmpf .olt main_v32 main_v33
  let main_c_7 : IVec S_ 1 := constantI S_ 1 1#1
  let main_v35 : IVec S_ 1 := (fun x v => Host.reduce IntOp.andi x v reducesTo_S4096_S_d0 h_S_) main_v34 main_c_7
  let main_v36 : FVec F S5237 .f32 := Host.absf main_arg3
  let main_cst_8 : FVec F S_ .f32 := constant S_ .f32 0x7F800000#32
  fn_part2 (F := F) main_arg4 main_v11 main_v23 main_v31 main_v35 main_v36 main_cst_8

def fn {F : FTy → Type} [FloatOps F] (main_arg0 : FVec F S2x4096x1024 .f32) (main_arg1 : FVec F S2x4096x1024 .f32) (main_arg2 : FVec F S4096 .f32) (main_arg3 : FVec F S5237 .f32) (main_arg4 : FVec F S512 .f32) (main_arg5 : IVec S5237 32) (main_arg6 : IVec S5237 32) : IVec S_ 1 :=
  let main_c : IVec S_ 32 := constantI S_ 32 1024#32
  let main_v0 : IVec S5237 32 := broadcastInDim S5237 ![] bcast_S_S5237 main_c
  let main_v1 : IVec S5237 32 := muli main_arg5 main_v0
  let main_v2 : IVec S5237 32 := addi main_v1 main_arg6
  let main_v3 : IVec S5237 32 := iotaInDim S5237 32 0
  let main_c_0 : IVec S_ 32 := constantI S_ 32 0#32
  let main_v4 : IVec S5237 32 := broadcastInDim S5237 ![] bcast_S_S5237 main_c_0
  let main_v5 : IVec S5237 1 := cmpi .sge main_arg5 main_v4
  let main_v6 : IVec S5237 1 := cmpi .slt main_arg5 main_arg6
  let main_v7 : IVec S5237 1 := andi main_v5 main_v6
  let main_c_1 : IVec S_ 32 := constantI S_ 32 1024#32
  let main_v8 : IVec S5237 32 := broadcastInDim S5237 ![] bcast_S_S5237 main_c_1
  let main_v9 : IVec S5237 1 := cmpi .slt main_arg6 main_v8
  let main_v10 : IVec S5237 1 := andi main_v7 main_v9
  let main_c_2 : IVec S_ 1 := constantI S_ 1 1#1
  let main_v11 : IVec S_ 1 := (fun x v => Host.reduce IntOp.andi x v reducesTo_S5237_S_d0 h_S_) main_v10 main_c_2
  let main_v12 : IVec S5237x1 32 := broadcastInDim S5237x1 ![0] bcast_S5237_S5237x1_0 main_v2
  let main_v13 : IVec S1x5237 32 := broadcastInDim S1x5237 ![1] bcast_S5237_S1x5237_1 main_v2
  let main_v14 : IVec S5237x5237 32 := broadcastInDim S5237x5237 ![0, 1] bcast_S5237x1_S5237x5237_0_1 main_v12
  let main_v15 : IVec S5237x5237 32 := broadcastInDim S5237x5237 ![0, 1] bcast_S1x5237_S5237x5237_0_1 main_v13
  let main_v16 : IVec S5237x5237 1 := cmpi .ne main_v14 main_v15
  let main_v17 : IVec S5237x1 32 := broadcastInDim S5237x1 ![0] bcast_S5237_S5237x1_0 main_v3
  let main_v18 : IVec S1x5237 32 := broadcastInDim S1x5237 ![1] bcast_S5237_S1x5237_1 main_v3
  let main_v19 : IVec S5237x5237 32 := broadcastInDim S5237x5237 ![0, 1] bcast_S5237x1_S5237x5237_0_1 main_v17
  fn_part1 (F := F) main_arg0 main_arg1 main_arg2 main_arg3 main_arg4 main_v11 main_v16 main_v18 main_v19
-- ==== Pre_index_range.lean ====
abbrev S2x4096x1024 : Shape := ⟨3, ![2, 4096, 1024]⟩
abbrev S4096 : Shape := ⟨1, ![4096]⟩
abbrev S5237 : Shape := ⟨1, ![5237]⟩
abbrev S512 : Shape := ⟨1, ![512]⟩
abbrev S_ : Shape := ⟨0, ![]⟩

class Facts : Prop where
  bcast_S_S5237 : S_.BroadcastsInDim S5237 (![] : Fin 0 → Fin S5237.rank)
  reducesTo_S5237_S_d0 : S5237.ReducesTo [0] S_
  h_S_ : 0 < S_.numel

variable [Facts]

def fn {F : FTy → Type} [FloatOps F] (main_arg0 : FVec F S2x4096x1024 .f32) (main_arg1 : FVec F S2x4096x1024 .f32) (main_arg2 : FVec F S4096 .f32) (main_arg3 : FVec F S5237 .f32) (main_arg4 : FVec F S512 .f32) (main_arg5 : IVec S5237 32) (main_arg6 : IVec S5237 32) : IVec S_ 1 :=
  let main_c : IVec S_ 32 := constantI S_ 32 0#32
  let main_v0 : IVec S5237 32 := broadcastInDim S5237 ![] bcast_S_S5237 main_c
  let main_v1 : IVec S5237 1 := cmpi .sge main_arg5 main_v0
  let main_c_0 : IVec S_ 32 := constantI S_ 32 1024#32
  let main_v2 : IVec S5237 32 := broadcastInDim S5237 ![] bcast_S_S5237 main_c_0
  let main_v3 : IVec S5237 1 := cmpi .slt main_arg5 main_v2
  let main_v4 : IVec S5237 1 := andi main_v1 main_v3
  let main_c_1 : IVec S_ 32 := constantI S_ 32 0#32
  let main_v5 : IVec S5237 32 := broadcastInDim S5237 ![] bcast_S_S5237 main_c_1
  let main_v6 : IVec S5237 1 := cmpi .sge main_arg6 main_v5
  let main_v7 : IVec S5237 1 := andi main_v4 main_v6
  let main_c_2 : IVec S_ 32 := constantI S_ 32 1024#32
  let main_v8 : IVec S5237 32 := broadcastInDim S5237 ![] bcast_S_S5237 main_c_2
  let main_v9 : IVec S5237 1 := cmpi .slt main_arg6 main_v8
  let main_v10 : IVec S5237 1 := andi main_v7 main_v9
  let main_c_3 : IVec S_ 1 := constantI S_ 1 1#1
  let main_v11 : IVec S_ 1 := (fun x v => Host.reduce IntOp.andi x v reducesTo_S5237_S_d0 h_S_) main_v10 main_c_3
  main_v11
-- ==== Kernel.lean ====
abbrev S2x4096x1024 : Shape := ⟨3, ![2, 4096, 1024]⟩
abbrev S4096 : Shape := ⟨1, ![4096]⟩
abbrev S5237 : Shape := ⟨1, ![5237]⟩
abbrev S512 : Shape := ⟨1, ![512]⟩
abbrev S_ : Shape := ⟨0, ![]⟩
abbrev S11 : Shape := ⟨1, ![11]⟩
abbrev S5248 : Shape := ⟨1, ![5248]⟩
abbrev S1048576 : Shape := ⟨1, ![1048576]⟩
abbrev S32768 : Shape := ⟨1, ![32768]⟩
abbrev S16 : Shape := ⟨1, ![16]⟩
abbrev S1024x1024 : Shape := ⟨2, ![1024, 1024]⟩
abbrev S2048x1024 : Shape := ⟨2, ![2048, 1024]⟩
abbrev S1x1024 : Shape := ⟨2, ![1, 1024]⟩
abbrev S1023x1024 : Shape := ⟨2, ![1023, 1024]⟩
abbrev S1024 : Shape := ⟨1, ![1024]⟩
abbrev S512x2 : Shape := ⟨2, ![512, 2]⟩
abbrev S4096x1 : Shape := ⟨2, ![4096, 1]⟩
abbrev S4096x16 : Shape := ⟨2, ![4096, 16]⟩
abbrev S16x1024 : Shape := ⟨2, ![16, 1024]⟩
abbrev S512x16 : Shape := ⟨2, ![512, 16]⟩
abbrev S1x512x1024 : Shape := ⟨3, ![1, 512, 1024]⟩
abbrev S512x1024 : Shape := ⟨2, ![512, 1024]⟩

abbrev nBuf : Table → Nat
  | .hbm => 106
  | .local .tc .vmem => 14
  | .local .scVector .vmem => 4
  | _ => 0

abbrev bufTy : (tb : Table) → Fin (nBuf tb) → BufTy
  | .hbm, ⟨0, _⟩ => ⟨S2x4096x1024, .f32⟩
  | .hbm, ⟨1, _⟩ => ⟨S2x4096x1024, .f32⟩
  | .hbm, ⟨2, _⟩ => ⟨S4096, .f32⟩
  | .hbm, ⟨3, _⟩ => ⟨S5237, .f32⟩
  | .hbm, ⟨4, _⟩ => ⟨S512, .f32⟩
  | .hbm, ⟨5, _⟩ => ⟨S5237, .i32⟩
  | .hbm, ⟨6, _⟩ => ⟨S5237, .i32⟩
  | .hbm, ⟨7, _⟩ => ⟨S_, .i32⟩
  | .hbm, ⟨8, _⟩ => ⟨S11, .i32⟩
  | .hbm, ⟨9, _⟩ => ⟨S5248, .i32⟩
  | .hbm, ⟨10, _⟩ => ⟨S_, .i32⟩
  | .hbm, ⟨11, _⟩ => ⟨S11, .i32⟩
  | .hbm, ⟨12, _⟩ => ⟨S5248, .i32⟩
  | .hbm, ⟨13, _⟩ => ⟨S_, .f32⟩
  | .hbm, ⟨14, _⟩ => ⟨S11, .f32⟩
  | .hbm, ⟨15, _⟩ => ⟨S5248, .f32⟩
  | .hbm, ⟨16, _⟩ => ⟨S1048576, .f32⟩
  | .hbm, ⟨17, _⟩ => ⟨S1024x1024, .f32⟩
  | .hbm, ⟨18, _⟩ => ⟨S2048x1024, .f32⟩
  | .hbm, ⟨19, _⟩ => ⟨S1024, .i32⟩
  | .hbm, ⟨20, _⟩ => ⟨S_, .i32⟩
  | .hbm, ⟨21, _⟩ => ⟨S_, .i32⟩
  | .hbm, ⟨22, _⟩ => ⟨S_, .i32⟩
  | .hbm, ⟨23, _⟩ => ⟨S_, .i1⟩
  | .hbm, ⟨24, _⟩ => ⟨S_, .i32⟩
  | .hbm, ⟨25, _⟩ => ⟨S_, .i32⟩
  | .hbm, ⟨26, _⟩ => ⟨S1024, .i32⟩
  | .hbm, ⟨27, _⟩ => ⟨S1024, .i32⟩
  | .hbm, ⟨28, _⟩ => ⟨S_, .i32⟩
  | .hbm, ⟨29, _⟩ => ⟨S1024, .i32⟩
  | .hbm, ⟨30, _⟩ => ⟨S1024, .i1⟩
  | .hbm, ⟨31, _⟩ => ⟨S_, .i32⟩
  | .hbm, ⟨32, _⟩ => ⟨S1024, .i32⟩
  | .hbm, ⟨33, _⟩ => ⟨S1024, .i1⟩
  | .hbm, ⟨34, _⟩ => ⟨S_, .i32⟩
  | .hbm, ⟨35, _⟩ => ⟨S_, .i1⟩
  | .hbm, ⟨36, _⟩ => ⟨S1024, .i1⟩
  | .hbm, ⟨37, _⟩ => ⟨S1024, .i1⟩
  | .hbm, ⟨38, _⟩ => ⟨S1024, .i1⟩
  | .hbm, ⟨39, _⟩ => ⟨S1024, .i32⟩
  | .hbm, ⟨40, _⟩ => ⟨S1024, .i32⟩
  | .hbm, ⟨41, _⟩ => ⟨S1024, .i32⟩
  | .hbm, ⟨42, _⟩ => ⟨S_, .i32⟩
  | .hbm, ⟨43, _⟩ => ⟨S1024, .i32⟩
  | .hbm, ⟨44, _⟩ => ⟨S1024, .i1⟩
  | .hbm, ⟨45, _⟩ => ⟨S_, .f32⟩
  | .hbm, ⟨46, _⟩ => ⟨S_, .f32⟩
  | .hbm, ⟨47, _⟩ => ⟨S1024, .f32⟩
  | .hbm, ⟨48, _⟩ => ⟨S1024, .f32⟩
  | .hbm, ⟨49, _⟩ => ⟨S1024, .f32⟩
  | .hbm, ⟨50, _⟩ => ⟨S1024, .f32⟩
  | .hbm, ⟨51, _⟩ => ⟨S512x2, .f32⟩
  | .hbm, ⟨52, _⟩ => ⟨S1024, .f32⟩
  | .hbm, ⟨53, _⟩ => ⟨S1024, .f32⟩
  | .hbm, ⟨54, _⟩ => ⟨S4096, .bf16⟩
  | .hbm, ⟨55, _⟩ => ⟨S4096, .f32⟩
  | .hbm, ⟨56, _⟩ => ⟨S4096, .f32⟩
  | .hbm, ⟨57, _⟩ => ⟨S4096, .bf16⟩
  | .hbm, ⟨58, _⟩ => ⟨S4096, .f32⟩
  | .hbm, ⟨59, _⟩ => ⟨S4096, .f32⟩
  | .hbm, ⟨60, _⟩ => ⟨S1024, .bf16⟩
  | .hbm, ⟨61, _⟩ => ⟨S1024, .f32⟩
  | .hbm, ⟨62, _⟩ => ⟨S1024, .f32⟩
  | .hbm, ⟨63, _⟩ => ⟨S1024, .bf16⟩
  | .hbm, ⟨64, _⟩ => ⟨S1024, .f32⟩
  | .hbm, ⟨65, _⟩ => ⟨S1024, .f32⟩
  | .hbm, ⟨66, _⟩ => ⟨S_, .f32⟩
  | .hbm, ⟨67, _⟩ => ⟨S4096, .f32⟩
  | .hbm, ⟨68, _⟩ => ⟨S4096x1, .f32⟩
  | .hbm, ⟨69, _⟩ => ⟨S4096x1, .f32⟩
  | .hbm, ⟨70, _⟩ => ⟨S4096x1, .f32⟩
  | .hbm, ⟨71, _⟩ => ⟨S4096x1, .f32⟩
  | .hbm, ⟨72, _⟩ => ⟨S4096x1, .f32⟩
  | .hbm, ⟨73, _⟩ => ⟨S4096x1, .f32⟩
  | .hbm, ⟨74, _⟩ => ⟨S4096x1, .f32⟩
  | .hbm, ⟨75, _⟩ => ⟨S4096x1, .f32⟩
  | .hbm, ⟨76, _⟩ => ⟨S4096x1, .f32⟩
  | .hbm, ⟨77, _⟩ => ⟨S4096x1, .f32⟩
  | .hbm, ⟨78, _⟩ => ⟨S4096x1, .f32⟩
  | .hbm, ⟨79, _⟩ => ⟨S4096x1, .f32⟩
  | .hbm, ⟨80, _⟩ => ⟨S4096x1, .f32⟩
  | .hbm, ⟨81, _⟩ => ⟨S4096x1, .f32⟩
  | .hbm, ⟨82, _⟩ => ⟨S4096x1, .f32⟩
  | .hbm, ⟨83, _⟩ => ⟨S4096x1, .f32⟩
  | .hbm, ⟨84, _⟩ => ⟨S4096x16, .f32⟩
  | .hbm, ⟨85, _⟩ => ⟨S_, .f32⟩
  | .hbm, ⟨86, _⟩ => ⟨S1024, .f32⟩
  | .hbm, ⟨87, _⟩ => ⟨S1x1024, .f32⟩
  | .hbm, ⟨88, _⟩ => ⟨S1x1024, .f32⟩
  | .hbm, ⟨89, _⟩ => ⟨S1x1024, .f32⟩
  | .hbm, ⟨90, _⟩ => ⟨S1x1024, .f32⟩
  | .hbm, ⟨91, _⟩ => ⟨S1x1024, .f32⟩
  | .hbm, ⟨92, _⟩ => ⟨S1x1024, .f32⟩
  | .hbm, ⟨93, _⟩ => ⟨S1x1024, .f32⟩
  | .hbm, ⟨94, _⟩ => ⟨S1x1024, .f32⟩
  | .hbm, ⟨95, _⟩ => ⟨S1x1024, .f32⟩
  | .hbm, ⟨96, _⟩ => ⟨S1x1024, .f32⟩
  | .hbm, ⟨97, _⟩ => ⟨S1x1024, .f32⟩
  | .hbm, ⟨98, _⟩ => ⟨S1x1024, .f32⟩
  | .hbm, ⟨99, _⟩ => ⟨S1x1024, .f32⟩
  | .hbm, ⟨100, _⟩ => ⟨S1x1024, .f32⟩
  | .hbm, ⟨101, _⟩ => ⟨S1x1024, .f32⟩
  | .hbm, ⟨102, _⟩ => ⟨S1x1024, .f32⟩
  | .hbm, ⟨103, _⟩ => ⟨S16x1024, .f32⟩
  | .hbm, ⟨104, _⟩ => ⟨S2x4096x1024, .f32⟩
  | .hbm, ⟨105, _⟩ => ⟨S2x4096x1024, .f32⟩
  | .local .tc .vmem, ⟨0, _⟩ => ⟨S1024x1024, .f32⟩
  | .local .tc .vmem, ⟨1, _⟩ => ⟨S2048x1024, .f32⟩
  | .local .tc .vmem, ⟨2, _⟩ => ⟨S512x16, .f32⟩
  | .local .tc .vmem, ⟨3, _⟩ => ⟨S512x16, .f32⟩
  | .local .tc .vmem, ⟨4, _⟩ => ⟨S16x1024, .f32⟩
  | .local .tc .vmem, ⟨5, _⟩ => ⟨S1x512x1024, .f32⟩
  | .local .tc .vmem, ⟨6, _⟩ => ⟨S1x512x1024, .f32⟩
  | .local .tc .vmem, ⟨7, _⟩ => ⟨S1x512x1024, .f32⟩
  | .local .tc .vmem, ⟨8, _⟩ => ⟨S1x512x1024, .f32⟩
  | .local .tc .vmem, ⟨9, _⟩ => ⟨S2048x1024, .f32⟩
  | .local .tc .vmem, ⟨10, _⟩ => ⟨S1x512x1024, .f32⟩
  | .local .tc .vmem, ⟨11, _⟩ => ⟨S1x512x1024, .f32⟩
  | .local .tc .vmem, ⟨12, _⟩ => ⟨S1x512x1024, .f32⟩
  | .local .tc .vmem, ⟨13, _⟩ => ⟨S1x512x1024, .f32⟩
  | .local .scVector .vmem, ⟨0, _⟩ => ⟨S5248, .i32⟩
  | .local .scVector .vmem, ⟨1, _⟩ => ⟨S5248, .i32⟩
  | .local .scVector .vmem, ⟨2, _⟩ => ⟨S5248, .f32⟩
  | .local .scVector .vmem, ⟨3, _⟩ => ⟨S32768, .f32⟩
  | _, _ => ⟨S2x4096x1024, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 18 → Bool
  | ⟨0, _⟩ => false
  | ⟨1, _⟩ => false
  | ⟨2, _⟩ => false
  | ⟨3, _⟩ => false
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTables nBuf rfl bufTy 4 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_v0 : Ref sig .tc := ⟨.hbm, 8, rfl⟩
abbrev main_v1 : Ref sig .tc := ⟨.hbm, 9, rfl⟩
abbrev main_c_0 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_c_1 : Ref sig .tc := ⟨.hbm, 20, rfl⟩
abbrev main_call0_v0 : Ref sig .tc := ⟨.hbm, 21, rfl⟩
abbrev main_call0_c : Ref sig .tc := ⟨.hbm, 22, rfl⟩
abbrev main_call0_v1 : Ref sig .tc := ⟨.hbm, 23, rfl⟩
abbrev main_call0_c_0 : Ref sig .tc := ⟨.hbm, 24, rfl⟩
abbrev main_call0_v2 : Ref sig .tc := ⟨.hbm, 25, rfl⟩
abbrev main_call0_v3 : Ref sig .tc := ⟨.hbm, 26, rfl⟩
abbrev main_call0_v4 : Ref sig .tc := ⟨.hbm, 27, rfl⟩
abbrev main_call0_c_1 : Ref sig .tc := ⟨.hbm, 28, rfl⟩
abbrev main_call0_v5 : Ref sig .tc := ⟨.hbm, 29, rfl⟩
abbrev main_call0_v6 : Ref sig .tc := ⟨.hbm, 30, rfl⟩
abbrev main_call0_c_2 : Ref sig .tc := ⟨.hbm, 31, rfl⟩
abbrev main_call0_v7 : Ref sig .tc := ⟨.hbm, 32, rfl⟩
abbrev main_call0_v8 : Ref sig .tc := ⟨.hbm, 33, rfl⟩
abbrev main_call0_c_3 : Ref sig .tc := ⟨.hbm, 34, rfl⟩
abbrev main_call0_v9 : Ref sig .tc := ⟨.hbm, 35, rfl⟩
abbrev main_call0_v10 : Ref sig .tc := ⟨.hbm, 36, rfl⟩
abbrev main_call0_v11 : Ref sig .tc := ⟨.hbm, 37, rfl⟩
abbrev main_call0_v12 : Ref sig .tc := ⟨.hbm, 38, rfl⟩
abbrev main_call0_v13 : Ref sig .tc := ⟨.hbm, 39, rfl⟩
abbrev main_call0_v14 : Ref sig .tc := ⟨.hbm, 40, rfl⟩
abbrev main_v10 : Ref sig .tc := ⟨.hbm, 41, rfl⟩
abbrev main_c_2 : Ref sig .tc := ⟨.hbm, 42, rfl⟩
abbrev main_v11 : Ref sig .tc := ⟨.hbm, 43, rfl⟩
abbrev main_v12 : Ref sig .tc := ⟨.hbm, 44, rfl⟩
abbrev main_cst_3 : Ref sig .tc := ⟨.hbm, 45, rfl⟩
abbrev main_cst_4 : Ref sig .tc := ⟨.hbm, 46, rfl⟩
abbrev main_call1_v0 : Ref sig .tc := ⟨.hbm, 47, rfl⟩
abbrev main_call1_v1 : Ref sig .tc := ⟨.hbm, 48, rfl⟩
abbrev main_v13 : Ref sig .tc := ⟨.hbm, 49, rfl⟩
abbrev main_v14 : Ref sig .tc := ⟨.hbm, 50, rfl⟩
abbrev main_v15 : Ref sig .tc := ⟨.hbm, 51, rfl⟩
abbrev main_v16 : Ref sig .tc := ⟨.hbm, 52, rfl⟩
abbrev main_v17 : Ref sig .tc := ⟨.hbm, 53, rfl⟩
abbrev main_v18 : Ref sig .tc := ⟨.hbm, 54, rfl⟩
abbrev main_v19 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_v23 : Ref sig .tc := ⟨.hbm, 59, rfl⟩
abbrev main_v24 : Ref sig .tc := ⟨.hbm, 60, rfl⟩
abbrev main_v25 : Ref sig .tc := ⟨.hbm, 61, rfl⟩
abbrev main_v26 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_cst_5 : Ref sig .tc := ⟨.hbm, 66, rfl⟩
abbrev main_v30 : Ref sig .tc := ⟨.hbm, 67, rfl⟩
abbrev main_v31 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_cst_6 : Ref sig .tc := ⟨.hbm, 85, rfl⟩
abbrev main_v48 : Ref sig .tc := ⟨.hbm, 86, rfl⟩
abbrev main_v49 : Ref sig .tc := ⟨.hbm, 87, rfl⟩
abbrev main_v50 : Ref sig .tc := ⟨.hbm, 88, rfl⟩
abbrev main_v51 : Ref sig .tc := ⟨.hbm, 89, rfl⟩
abbrev main_v52 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_v56 : Ref sig .tc := ⟨.hbm, 94, rfl⟩
abbrev main_v57 : Ref sig .tc := ⟨.hbm, 95, rfl⟩
abbrev main_v58 : Ref sig .tc := ⟨.hbm, 96, rfl⟩
abbrev main_v59 : Ref sig .tc := ⟨.hbm, 97, rfl⟩
abbrev main_v60 : Ref sig .tc := ⟨.hbm, 98, rfl⟩
abbrev main_v61 : Ref sig .tc := ⟨.hbm, 99, rfl⟩
abbrev main_v62 : Ref sig .tc := ⟨.hbm, 100, rfl⟩
abbrev main_v63 : Ref sig .tc := ⟨.hbm, 101, rfl⟩
abbrev main_v64 : Ref sig .tc := ⟨.hbm, 102, rfl⟩
abbrev main_v65 : Ref sig .tc := ⟨.hbm, 103, rfl⟩
abbrev main_v66_0 : Ref sig .tc := ⟨.hbm, 104, rfl⟩
abbrev main_v66_1 : Ref sig .tc := ⟨.hbm, 105, rfl⟩
abbrev main_v1_scv : Ref sig .scVector := ⟨.hbm, 9, rfl⟩
abbrev main_v3_scv : Ref sig .scVector := ⟨.hbm, 12, rfl⟩
abbrev main_v5_scv : Ref sig .scVector := ⟨.hbm, 15, rfl⟩
abbrev main_v6_scv : Ref sig .scVector := ⟨.hbm, 16, rfl⟩
abbrev cc1_stg0_0 : Ref sig .tc := ⟨.vmem, 0, rfl⟩
abbrev cc1_stg1_0 : Ref sig .tc := ⟨.vmem, 1, rfl⟩
abbrev cc2_stg0_0 : Ref sig .tc := ⟨.vmem, 2, rfl⟩
abbrev cc2_stg0_1 : Ref sig .tc := ⟨.vmem, 3, rfl⟩
abbrev cc2_stg1_0 : Ref sig .tc := ⟨.vmem, 4, rfl⟩
abbrev cc2_stg2_0 : Ref sig .tc := ⟨.vmem, 5, rfl⟩
abbrev cc2_stg2_1 : Ref sig .tc := ⟨.vmem, 6, rfl⟩
abbrev cc2_stg3_0 : Ref sig .tc := ⟨.vmem, 7, rfl⟩
abbrev cc2_stg3_1 : Ref sig .tc := ⟨.vmem, 8, rfl⟩
abbrev cc2_stg4_0 : Ref sig .tc := ⟨.vmem, 9, rfl⟩
abbrev cc2_stg5_0 : Ref sig .tc := ⟨.vmem, 10, rfl⟩
abbrev cc2_stg5_1 : Ref sig .tc := ⟨.vmem, 11, rfl⟩
abbrev cc2_stg6_0 : Ref sig .tc := ⟨.vmem, 12, rfl⟩
abbrev cc2_stg6_1 : Ref sig .tc := ⟨.vmem, 13, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc1_sem0_0 : DmaSem sig := 4
abbrev cc1_sem1_0 : DmaSem sig := 5
abbrev cc2_sem0_0 : DmaSem sig := 6
abbrev cc2_sem0_1 : DmaSem sig := 7
abbrev cc2_sem1_0 : DmaSem sig := 8
abbrev cc2_sem2_0 : DmaSem sig := 9
abbrev cc2_sem2_1 : DmaSem sig := 10
abbrev cc2_sem3_0 : DmaSem sig := 11
abbrev cc2_sem3_1 : DmaSem sig := 12
abbrev cc2_sem4_0 : DmaSem sig := 13
abbrev cc2_sem5_0 : DmaSem sig := 14
abbrev cc2_sem5_1 : DmaSem sig := 15
abbrev cc2_sem6_0 : DmaSem sig := 16
abbrev cc2_sem6_1 : DmaSem sig := 17
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

@[reducible] def k0_t1_loop : Scf.Loop 32 :=
  let c0_i32 : BitVec 32 := 0#32
  let c2048_i32 : BitVec 32 := 2048#32
  let v4 : BitVec 32 := Scalar.addi c0_i32 c2048_i32
  let c1_i32 : BitVec 32 := 1#32
  ⟨c0_i32, v4, c1_i32⟩
def k0_off1 (k0_t1 : Fin k0_t1_loop.trips) : Fin 1 → Nat :=
  let c0_i32_4 : BitVec 32 := 0#32
  let c0_i32 : BitVec 32 := 0#32
  let c1_i32 : BitVec 32 := 1#32
  let arg10 : BitVec 32 := Scf.iv c0_i32 c1_i32 k0_t1
  let c16_i32 : BitVec 32 := 16#32
  let v7 : BitVec 32 := Scalar.muli arg10 c16_i32
  let v8 : BitVec 32 := Scalar.addi c0_i32_4 v7
  let v9 : Index := Scalar.indexCast v8
  ![v9.toNat]
@[reducible] def k0_t2_loop : Scf.Loop 32 :=
  let c0_i32_1 : BitVec 32 := 0#32
  let c328_i32 : BitVec 32 := 328#32
  let v5 : BitVec 32 := Scalar.addi c0_i32_1 c328_i32
  let c1_i32_2 : BitVec 32 := 1#32
  ⟨c0_i32_1, v5, c1_i32_2⟩
def k0_off2 (k0_t2 : Fin k0_t2_loop.trips) : Fin 1 → Nat :=
  let c0_i32_4 : BitVec 32 := 0#32
  let c0_i32_1 : BitVec 32 := 0#32
  let c1_i32_2 : BitVec 32 := 1#32
  let arg10 : BitVec 32 := Scf.iv c0_i32_1 c1_i32_2 k0_t2
  let c16_i32 : BitVec 32 := 16#32
  let v7 : BitVec 32 := Scalar.muli arg10 c16_i32
  let v8 : BitVec 32 := Scalar.addi c0_i32_4 v7
  let v9 : Index := Scalar.indexCast v8
  ![v9.toNat]

def k0_chk1 (v26 : IVec S16 32) : Prop :=
  (∀ a x, ((![v26] : Fin 1 → IVec S16 32) a x).toNat < S32768.size a)
theorem k0_idx1_inb : ∀ (v26 : IVec S16 32) (k0_hw1 : k0_chk1 v26), ∀ a x, ((![v26] : Fin 1 → IVec S16 32) a x).toNat < S32768.size a := fun v26 k0_hw1 => k0_hw1

def k0_chk2 (v38 : IVec S16 32) : Prop :=
  (∀ a x, ((![v38] : Fin 1 → IVec S16 32) a x).toNat < S32768.size a)
theorem k0_idx2_inb : ∀ (v38 : IVec S16 32) (k0_hw2 : k0_chk2 v38), ∀ a x, ((![v38] : Fin 1 → IVec S16 32) a x).toNat < S32768.size a := fun v38 k0_hw2 => k0_hw2
def k0_off3 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c32_i32 : BitVec 32 := 32#32
  let v2 : BitVec 32 := Scalar.muli v1 c32_i32
  let c1024_i32 : BitVec 32 := 1024#32
  let v6 : BitVec 32 := Scalar.muli v2 c1024_i32
  ![v6.toNat]
abbrev grid1 : Pipeline.Grid := .none

abbrev stage1_0 : Fin 1 → Memref sig .tc .vmem S1024x1024 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))

abbrev stage1_1 : Fin 1 → Memref sig .tc .vmem S2048x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))

abbrev grid2 : Pipeline.Grid := ⟨2, ![2, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_4 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_6 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S512x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 1 → Memref sig .tc .vmem S16x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 2 → Memref sig .tc .vmem S1x512x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev stage2_3 : Fin 2 → Memref sig .tc .vmem S1x512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

abbrev stage2_4 : Fin 1 → Memref sig .tc .vmem S2048x1024 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false, false]

abbrev stage2_5 : Fin 2 → Memref sig .tc .vmem S1x512x1024 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true, true]

abbrev stage2_6 : Fin 2 → Memref sig .tc .vmem S1x512x1024 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true, true]

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S2x4096x1024 : Shape := ⟨3, ![2, 4096, 1024]⟩
abbrev S4096 : Shape := ⟨1, ![4096]⟩
abbrev S5237 : Shape := ⟨1, ![5237]⟩
abbrev S512 : Shape := ⟨1, ![512]⟩
abbrev S_ : Shape := ⟨0, ![]⟩
abbrev S1024x1024 : Shape := ⟨2, ![1024, 1024]⟩
abbrev S5237x1 : Shape := ⟨2, ![5237, 1]⟩
abbrev S5237x2 : Shape := ⟨2, ![5237, 2]⟩
abbrev S2x4096x512x2 : Shape := ⟨4, ![2, 4096, 512, 2]⟩
abbrev S1x4096x1 : Shape := ⟨3, ![1, 4096, 1]⟩
abbrev S1x1x512 : Shape := ⟨3, ![1, 1, 512]⟩
abbrev S1x4096x512 : Shape := ⟨3, ![1, 4096, 512]⟩
abbrev S1x4096x512x1 : Shape := ⟨4, ![1, 4096, 512, 1]⟩
abbrev S2x4096x512x1 : Shape := ⟨4, ![2, 4096, 512, 1]⟩
abbrev S8192x1024 : Shape := ⟨2, ![8192, 1024]⟩
abbrev S1024x8192 : Shape := ⟨2, ![1024, 8192]⟩

abbrev nBuf : Space → Nat
  | .hbm => 142
  | .vmem => 0
  | .smem => 0
  | _ => 0

abbrev hbmTy0_0 (i : Nat) : BufTy := match i % 128 with
  | 0 => ⟨S2x4096x1024, .f32⟩
  | 1 => ⟨S2x4096x1024, .f32⟩
  | 2 => ⟨S4096, .f32⟩
  | 3 => ⟨S5237, .f32⟩
  | 4 => ⟨S512, .f32⟩
  | 5 => ⟨S5237, .i32⟩
  | 6 => ⟨S5237, .i32⟩
  | 7 => ⟨S_, .f32⟩
  | 8 => ⟨S1024x1024, .f32⟩
  | 9 => ⟨S_, .i32⟩
  | 10 => ⟨S5237, .i32⟩
  | 11 => ⟨S5237, .i1⟩
  | 12 => ⟨S_, .i32⟩
  | 13 => ⟨S5237, .i32⟩
  | 14 => ⟨S5237, .i32⟩
  | 15 => ⟨S5237, .i32⟩
  | 16 => ⟨S_, .i32⟩
  | 17 => ⟨S5237, .i32⟩
  | 18 => ⟨S5237, .i1⟩
  | 19 => ⟨S_, .i32⟩
  | 20 => ⟨S5237, .i32⟩
  | 21 => ⟨S5237, .i32⟩
  | 22 => ⟨S5237, .i32⟩
  | 23 => ⟨S5237x1, .i32⟩
  | 24 => ⟨S5237x1, .i32⟩
  | 25 => ⟨S5237x2, .i32⟩
  | 26 => ⟨S1024x1024, .f32⟩
  | 27 => ⟨S5237, .f32⟩
  | 28 => ⟨S_, .i32⟩
  | 29 => ⟨S5237, .i32⟩
  | 30 => ⟨S5237, .i1⟩
  | 31 => ⟨S_, .i32⟩
  | 32 => ⟨S5237, .i32⟩
  | 33 => ⟨S5237, .i32⟩
  | 34 => ⟨S5237, .i32⟩
  | 35 => ⟨S_, .i32⟩
  | 36 => ⟨S5237, .i32⟩
  | 37 => ⟨S5237, .i1⟩
  | 38 => ⟨S_, .i32⟩
  | 39 => ⟨S5237, .i32⟩
  | 40 => ⟨S5237, .i32⟩
  | 41 => ⟨S5237, .i32⟩
  | 42 => ⟨S5237x1, .i32⟩
  | 43 => ⟨S5237x1, .i32⟩
  | 44 => ⟨S5237x2, .i32⟩
  | 45 => ⟨S1024x1024, .f32⟩
  | 46 => ⟨S2x4096x512x2, .f32⟩
  | 47 => ⟨S1x4096x1, .f32⟩
  | 48 => ⟨S1x1x512, .f32⟩
  | 49 => ⟨S1x4096x512, .f32⟩
  | 50 => ⟨S1x4096x512, .f32⟩
  | 51 => ⟨S1x4096x512, .f32⟩
  | 52 => ⟨S1x4096x512, .f32⟩
  | 53 => ⟨S1x4096x512x1, .f32⟩
  | 54 => ⟨S1x4096x512, .f32⟩
  | 55 => ⟨S1x4096x512x1, .f32⟩
  | 56 => ⟨S2x4096x512x1, .f32⟩
  | 57 => ⟨S2x4096x512x1, .f32⟩
  | 58 => ⟨S2x4096x512x1, .f32⟩
  | 59 => ⟨S2x4096x512x1, .f32⟩
  | 60 => ⟨S2x4096x512x1, .f32⟩
  | 61 => ⟨S2x4096x512x1, .f32⟩
  | 62 => ⟨S2x4096x512x1, .f32⟩
  | 63 => ⟨S2x4096x512x1, .f32⟩
  | 64 => ⟨S2x4096x512x1, .f32⟩
  | 65 => ⟨S2x4096x512x1, .f32⟩
  | 66 => ⟨S2x4096x512x1, .f32⟩
  | 67 => ⟨S2x4096x512x1, .f32⟩
  | 68 => ⟨S2x4096x512x2, .f32⟩
  | 69 => ⟨S2x4096x1024, .f32⟩
  | 70 => ⟨S8192x1024, .f32⟩
  | 71 => ⟨S1024x8192, .f32⟩
  | 72 => ⟨S1024x8192, .f32⟩
  | 73 => ⟨S1024x8192, .f32⟩
  | 74 => ⟨S1024x8192, .f32⟩
  | 75 => ⟨S1024x8192, .f32⟩
  | 76 => ⟨S1024x8192, .f32⟩
  | 77 => ⟨S1024x8192, .f32⟩
  | 78 => ⟨S1024x8192, .f32⟩
  | 79 => ⟨S1024x8192, .f32⟩
  | 80 => ⟨S1024x8192, .f32⟩
  | 81 => ⟨S1024x8192, .f32⟩
  | 82 => ⟨S1024x8192, .f32⟩
  | 83 => ⟨S1024x8192, .f32⟩
  | 84 => ⟨S1024x8192, .f32⟩
  | 85 => ⟨S1024x8192, .f32⟩
  | 86 => ⟨S1024x8192, .f32⟩
  | 87 => ⟨S1024x8192, .f32⟩
  | 88 => ⟨S_, .f32⟩
  | 89 => ⟨S1024x8192, .f32⟩
  | 90 => ⟨S1024x8192, .f32⟩
  | 91 => ⟨S1024x8192, .f32⟩
  | 92 => ⟨S8192x1024, .f32⟩
  | 93 => ⟨S2x4096x1024, .f32⟩
  | 94 => ⟨S2x4096x512x2, .f32⟩
  | 95 => ⟨S1x4096x1, .f32⟩
  | 96 => ⟨S1x1x512, .f32⟩
  | 97 => ⟨S1x4096x512, .f32⟩
  | 98 => ⟨S1x4096x512, .f32⟩
  | 99 => ⟨S1x4096x512, .f32⟩
  | 100 => ⟨S1x4096x512, .f32⟩
  | 101 => ⟨S1x4096x512x1, .f32⟩
  | 102 => ⟨S1x4096x512, .f32⟩
  | 103 => ⟨S1x4096x512x1, .f32⟩
  | 104 => ⟨S2x4096x512x1, .f32⟩
  | 105 => ⟨S2x4096x512x1, .f32⟩
  | 106 => ⟨S2x4096x512x1, .f32⟩
  | 107 => ⟨S2x4096x512x1, .f32⟩
  | 108 => ⟨S2x4096x512x1, .f32⟩
  | 109 => ⟨S2x4096x512x1, .f32⟩
  | 110 => ⟨S2x4096x512x1, .f32⟩
  | 111 => ⟨S2x4096x512x1, .f32⟩
  | 112 => ⟨S2x4096x512x1, .f32⟩
  | 113 => ⟨S2x4096x512x1, .f32⟩
  | 114 => ⟨S2x4096x512x1, .f32⟩
  | 115 => ⟨S2x4096x512x1, .f32⟩
  | 116 => ⟨S2x4096x512x2, .f32⟩
  | 117 => ⟨S2x4096x1024, .f32⟩
  | 118 => ⟨S8192x1024, .f32⟩
  | 119 => ⟨S1024x8192, .f32⟩
  | 120 => ⟨S1024x8192, .f32⟩
  | 121 => ⟨S1024x8192, .f32⟩
  | 122 => ⟨S1024x8192, .f32⟩
  | 123 => ⟨S1024x8192, .f32⟩
  | 124 => ⟨S1024x8192, .f32⟩
  | 125 => ⟨S1024x8192, .f32⟩
  | 126 => ⟨S1024x8192, .f32⟩
  | 127 => ⟨S1024x8192, .f32⟩
  | _ => ⟨S2x4096x1024, .f32⟩

abbrev hbmTy0_1 (i : Nat) : BufTy := match i % 128 with
  | 0 => ⟨S1024x8192, .f32⟩
  | 1 => ⟨S1024x8192, .f32⟩
  | 2 => ⟨S1024x8192, .f32⟩
  | 3 => ⟨S1024x8192, .f32⟩
  | 4 => ⟨S1024x8192, .f32⟩
  | 5 => ⟨S1024x8192, .f32⟩
  | 6 => ⟨S1024x8192, .f32⟩
  | 7 => ⟨S1024x8192, .f32⟩
  | 8 => ⟨S_, .f32⟩
  | 9 => ⟨S1024x8192, .f32⟩
  | 10 => ⟨S1024x8192, .f32⟩
  | 11 => ⟨S1024x8192, .f32⟩
  | 12 => ⟨S8192x1024, .f32⟩
  | 13 => ⟨S2x4096x1024, .f32⟩
  | _ => ⟨S2x4096x1024, .f32⟩

abbrev hbmTy (i : Nat) : BufTy := match i / 128 with
  | 0 => hbmTy0_0 i
  | 1 => hbmTy0_1 i
  | _ => ⟨S2x4096x1024, .f32⟩

abbrev bufTy : (tb : Table) → Fin (tcTables nBuf tb) → BufTy
  | .hbm, ⟨i, _⟩ => hbmTy i
  | _, _ => ⟨S2x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_c : Ref sig .tc := ⟨.hbm, 9, rfl⟩
abbrev main_v1 : Ref sig .tc := ⟨.hbm, 10, rfl⟩
abbrev main_v2 : Ref sig .tc := ⟨.hbm, 11, rfl⟩
abbrev main_c_0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c_1 : Ref sig .tc := ⟨.hbm, 16, rfl⟩
abbrev main_v6 : Ref sig .tc := ⟨.hbm, 17, rfl⟩
abbrev main_v7 : Ref sig .tc := ⟨.hbm, 18, rfl⟩
abbrev main_c_2 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_c_6 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_v55 : Ref sig .tc := ⟨.hbm, 71, rfl⟩
abbrev main_v56 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_v60 : Ref sig .tc := ⟨.hbm, 76, rfl⟩
abbrev main_v61 : Ref sig .tc := ⟨.hbm, 77, rfl⟩
abbrev main_v62 : Ref sig .tc := ⟨.hbm, 78, rfl⟩
abbrev main_v63 : Ref sig .tc := ⟨.hbm, 79, rfl⟩
abbrev main_v64 : Ref sig .tc := ⟨.hbm, 80, rfl⟩
abbrev main_v65 : Ref sig .tc := ⟨.hbm, 81, rfl⟩
abbrev main_v66 : Ref sig .tc := ⟨.hbm, 82, rfl⟩
abbrev main_v67 : Ref sig .tc := ⟨.hbm, 83, rfl⟩
abbrev main_v68 : Ref sig .tc := ⟨.hbm, 84, rfl⟩
abbrev main_v69 : Ref sig .tc := ⟨.hbm, 85, rfl⟩
abbrev main_v70 : Ref sig .tc := ⟨.hbm, 86, rfl⟩
abbrev main_v71 : Ref sig .tc := ⟨.hbm, 87, rfl⟩
abbrev main_cst_7 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_v100 : Ref sig .tc := ⟨.hbm, 117, rfl⟩
abbrev main_v101 : Ref sig .tc := ⟨.hbm, 118, rfl⟩
abbrev main_v102 : Ref sig .tc := ⟨.hbm, 119, rfl⟩
abbrev main_v103 : Ref sig .tc := ⟨.hbm, 120, rfl⟩
abbrev main_v104 : Ref sig .tc := ⟨.hbm, 121, rfl⟩
abbrev main_v105 : Ref sig .tc := ⟨.hbm, 122, rfl⟩
abbrev main_v106 : Ref sig .tc := ⟨.hbm, 123, rfl⟩
abbrev main_v107 : Ref sig .tc := ⟨.hbm, 124, rfl⟩
abbrev main_v108 : Ref sig .tc := ⟨.hbm, 125, rfl⟩
abbrev main_v109 : Ref sig .tc := ⟨.hbm, 126, rfl⟩
abbrev main_v110 : Ref sig .tc := ⟨.hbm, 127, rfl⟩
abbrev main_v111 : Ref sig .tc := ⟨.hbm, 128, rfl⟩
abbrev main_v112 : Ref sig .tc := ⟨.hbm, 129, rfl⟩
abbrev main_v113 : Ref sig .tc := ⟨.hbm, 130, rfl⟩
abbrev main_v114 : Ref sig .tc := ⟨.hbm, 131, rfl⟩
abbrev main_v115 : Ref sig .tc := ⟨.hbm, 132, rfl⟩
abbrev main_v116 : Ref sig .tc := ⟨.hbm, 133, rfl⟩
abbrev main_v117 : Ref sig .tc := ⟨.hbm, 134, rfl⟩
abbrev main_v118 : Ref sig .tc := ⟨.hbm, 135, rfl⟩
abbrev main_cst_8 : Ref sig .tc := ⟨.hbm, 136, rfl⟩
abbrev main_v119 : Ref sig .tc := ⟨.hbm, 137, rfl⟩
abbrev main_v120 : Ref sig .tc := ⟨.hbm, 138, rfl⟩
abbrev main_v121 : Ref sig .tc := ⟨.hbm, 139, rfl⟩
abbrev main_v122 : Ref sig .tc := ⟨.hbm, 140, rfl⟩
abbrev main_v123 : Ref sig .tc := ⟨.hbm, 141, rfl⟩

abbrev nD : Nat := 1
abbrev τ : Topo := Topo.v7x

variable {F : FTy → Type} [FloatOps F]
-- ==== Proof.Slab.lean ====
/-
  What one vector subcore leaves in its 32-row slab of the skew matrix, as plain functions of the three padded tables:
  the slab zeroed, then every trip's sixteen table entries written at their places (`put`), once as they are
  and once mirrored and negated. `slab` is the slab after all trips; `chk1`, `chk2` are the in-range facts the body's
  indexed stores ask for.
-/
module

public import proofs.«01_k».proof.Proof.Gen.KernelIdeal.Skeleton
public import Idealize.ShloMosaic.Lib.Exec

@[expose] public section

noncomputable section

namespace Cert.Proof

open Cert.KernelIdeal Cert.KernelIdeal.Gen
open Idealize.ShloMosaic

variable {F : FTy → Type} [FloatOps F]

/-- The masked lanes of `v` written over `g` at the places `ix` names, in lane order. -/
def put {α : Type} (g : S32768.Idx → α) (ix : IVec S16 32) (v : S16.Idx → α) (mask : IVec S16 1) : S32768.Idx → α :=
  (List.finRange 16).foldl (fun g k =>
    let x : S16.Idx := Shape.ofLane (d := ![16]) k
    if mask x = 1#1 then fun j => if (j 0).val = (ix x).toNat then v x else g j else g) g

/-- An indexed store without addition is `put`. -/
theorem storeIdx_eq_put (g : Vec F S32768 .f32) (ix : IVec S16 32) (v : Vec F S16 .f32) (mask : IVec S16 1)
    (h : ∀ a x, ((![ix] : Fin 1 → IVec S16 32) a x).toNat < S32768.size a) :
    storeIdx (F := F) g ![ix] v mask false h = put g ix v mask := by
  unfold storeIdx put
  congr 1
  funext g k
  refine if_congr Iff.rfl ?_ rfl
  funext j
  by_cases H : (j 0).val = (ix (Shape.ofLane (d := ![16]) k)).toNat
  · refine (if_pos fun a => ?_).trans (if_pos H).symm
    obtain rfl : a = 0 := Subsingleton.elim _ _
    exact H
  · exact (if_neg fun H' => H (H' 0)).trans (if_neg H).symm

/-- One trip: the entries `(r, c, v)` written, then `(c, r, 0 - v)`. -/
def trip (i : grid0.Coords) (r c : Vec F S16 .i32) (v : Vec F S16 .f32) (g : S32768.Idx → F .f32) : S32768.Idx → F .f32 :=
  put (put g (k0_pay4 (F := F) i r c) v (k0_pay3 (F := F) i r)) (k0_pay7 (F := F) i r c) (k0_pay8 v) (k0_pay6 (F := F) i c)

/-- Trip `k`'s sixteen entries of a table. -/
def lanes {α : Type} (x : S5248.Idx → α) (k : Fin k0_t2_loop.trips) : S16.Idx → α :=
  fun l => x ((Rect.unit (s := S5248) (k0_off2 k) S16.size (k0_off2_inb k)).toLoadRect.idx l)

/-- The slab after the first `n` trips. -/
def slabUpTo (i : grid0.Coords) (r c : S5248.Idx → BitVec 32) (v : S5248.Idx → F .f32) : ℕ → S32768.Idx → F .f32
  | 0 => fun _ => Scalar.ofBits .f32 0x00000000#32
  | n + 1 => if h : n < k0_t2_loop.trips then trip i (lanes r ⟨n, h⟩) (lanes c ⟨n, h⟩) (lanes v ⟨n, h⟩) (slabUpTo i r c v n) else slabUpTo i r c v n

/-- The slab after every trip. -/
abbrev slab (i : grid0.Coords) (r c : S5248.Idx → BitVec 32) (v : S5248.Idx → F .f32) : S32768.Idx → F .f32 :=
  slabUpTo i r c v k0_t2_loop.trips

theorem slabUpTo_succ (i : grid0.Coords) (r c : S5248.Idx → BitVec 32) (v : S5248.Idx → F .f32) (k : Fin k0_t2_loop.trips) :
    slabUpTo i r c v (k.val + 1) = trip i (lanes r k) (lanes c k) (lanes v k) (slabUpTo i r c v k.val) := by
  rw [slabUpTo, dif_pos k.isLt]

/-! ## The stores' places are inside the slab -/

/-- A word between 0 and 31, read signed, is below 32. -/
theorem toNat_lt_of_mask {x : BitVec 32} (h : IntOp.andi (IntOp.cmpi .sge x 0#32) (IntOp.cmpi .slt x 32#32) = 1#1) : x.toNat < 32 := by
  have h0 : (0#32).sle x = true ∧ x.slt 32#32 = true := by
    revert h
    simp only [IntOp.andi, IntOp.cmpi]
    cases h1 : (0#32).sle x <;> cases h2 : x.slt 32#32 <;> simp_all
  have h1 := BitVec.sle_iff_toInt_le.mp h0.1
  have h2 := BitVec.slt_iff_toInt_lt.mp h0.2
  rw [show (0#32).toInt = 0 by decide] at h1
  rw [show (32#32).toInt = 32 by decide] at h2
  rw [BitVec.toInt_eq_toNat_cond] at h1 h2
  have := x.isLt
  split at h1 <;> simp_all <;> omega

theorem toNat_mul_add {x c : BitVec 32} (hx : x.toNat < 32) (hc : c.toNat < 1024) :
    (IntOp.addi (IntOp.muli x 1024#32) c).toNat = x.toNat * 1024 + c.toNat := by
  show (x * 1024#32 + c).toNat = _
  rw [BitVec.toNat_add, BitVec.toNat_mul, show (1024#32).toNat = 1024 by decide]
  omega

omit [FloatOps F] in
theorem chk1 (i : grid0.Coords) (r c : Vec F S16 .i32) (hc : ∀ x, (c x : BitVec 32).toNat < 1024) : k0_chk1 (k0_pay4 (F := F) i r c) := by
  intro a x
  obtain rfl : a = 0 := Subsingleton.elim _ _
  show (if k0_pay3 (F := F) i r x = 1#1 then IntOp.addi (IntOp.muli (k0_pay2 (F := F) i r x) 1024#32) (c x) else 0#32 : BitVec 32).toNat < 32768
  split
  · next h =>
    have hx : (k0_pay2 (F := F) i r x).toNat < 32 := toNat_lt_of_mask h
    rw [toNat_mul_add hx (hc x)]
    have := hc x
    omega
  · decide

omit [FloatOps F] in
theorem chk2 (i : grid0.Coords) (r c : Vec F S16 .i32) (hr : ∀ x, (r x : BitVec 32).toNat < 1024) : k0_chk2 (k0_pay7 (F := F) i r c) := by
  intro a x
  obtain rfl : a = 0 := Subsingleton.elim _ _
  show (if k0_pay6 (F := F) i c x = 1#1 then IntOp.addi (IntOp.muli (k0_pay5 (F := F) i c x) 1024#32) (r x) else 0#32 : BitVec 32).toNat < 32768
  split
  · next h =>
    have hx : (k0_pay5 (F := F) i c x).toNat < 32 := toNat_lt_of_mask h
    rw [toNat_mul_add hx (hr x)]
    have := hr x
    omega
  · decide

end Cert.Proof

end
-- ==== Proof.Common.lean ====
/-
  The program as the launch theorem sees it, and the resource algebra the proof runs in: the SparseCore handshakes'
  rounds, the pipelined kernels' rounds and the transfers' counters.
-/
module

public import proofs.«01_k».proof.Proof.Slab
public import proofs.«01_k».proof.Proof.Gen.KernelIdeal.Launch
public import proofs.«01_k».proof.Proof.Gen.KernelIdeal.Points
public import Idealize.ShloMosaic.Lib.SparseCore.Ops
public import Idealize.ShloMosaic.Lib.SparseCore.Quiescent
public import Idealize.ShloMosaic.Lib.StableHlo.Run
public import Idealize.ShloMosaic.Lib.Pipeline.Kit
public import Idealize.ShloMosaic.Lib.Pipeline.Regions
public import Idealize.ShloMosaic.Lib.Tactic

@[expose] public section

noncomputable section

namespace Cert.Proof

open Cert.KernelIdeal Cert.KernelIdeal.Gen

open Idealize.ShloMosaic
open Idealize.ShloMosaic.SparseCore (S V T)
open scoped Idealize.SL.BI
open Idealize.SL.BI.BIBase Idealize.SL.BI.Laws Idealize.SL.ProofMode Idealize.SL.Sem
open Idealize.ShloMosaic.SparseCore.Cfg (HIx)
open Idealize.SL Idealize.SL.RA Idealize.SL.BI
open Idealize.ShloMosaic.Rounds

variable {F : FTy → Type}

abbrev ΛP [FloatOps F] : Labels := Pipeline.Sig Λ₀ (Fin 2) fun p => (pcfgs (F := F) p).Adm
abbrev K [FloatOps F] : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts [FloatOps F] : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

abbrev UH : Type := URounds (GSem nD τ sig) ℕ
abbrev UP : Type := URounds (GSem nD τ sig) Unit
abbrev UU : Type := UH × (UP × Counters)

local notation "𝕄" => MT nD τ sig (HIx 1) (Elt F) ℕ UU ℕ

abbrev EH : Emb UH (MT nD τ sig (HIx 1) (Elt F) ℕ UU ℕ) := embL
def EP : Emb UP (MT nD τ sig (HIx 1) (Elt F) ℕ UU ℕ) :=
  ((Emb.inl : Emb UP (UP × Counters)).trans (Emb.inr : Emb (UP × Counters) UU)).trans
    (uEmb (nD := nD) (sig := sig) (Ix := HIx 1) (Val := Elt F) (Name := ℕ) (U := UU) (Lvl := ℕ)).toEmb

instance EP_landsIn : (EP : Emb UP 𝕄).LandsIn (upEmb : UEmb _ 𝕄) := by unfold EP; infer_instance

end Cert.Proof

end
-- ==== Proof.Tile.lean ====
/-
  One vector subcore's task: the three tables fetched, the slab zeroed, the entries written trip by trip, the slab
  written out. Run once at symbolic coordinates; the loops' invariants carry the contents.
-/
module

public import proofs.«01_k».proof.Proof.Common
public import Idealize.ShloMosaic.Lib.Pipeline.Value

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "rV" => (Memref.whole Cert.KernelIdeal.main_v1_scv : Memref Cert.KernelIdeal.sig Kind.scVector Space.hbm Cert.KernelIdeal.S5248 EltTy.i32)
local notation "cV" => (Memref.whole Cert.KernelIdeal.main_v3_scv : Memref Cert.KernelIdeal.sig Kind.scVector Space.hbm Cert.KernelIdeal.S5248 EltTy.i32)
local notation "vV" => (Memref.whole Cert.KernelIdeal.main_v5_scv : Memref Cert.KernelIdeal.sig Kind.scVector Space.hbm Cert.KernelIdeal.S5248 EltTy.f32)
local notation "oV" => (Memref.whole Cert.KernelIdeal.main_v6_scv : Memref Cert.KernelIdeal.sig Kind.scVector Space.hbm Cert.KernelIdeal.S1048576 EltTy.f32)
local notation "rS" => (Memref.whole Cert.KernelIdeal.cc0_scratch0 : Memref Cert.KernelIdeal.sig Kind.scVector Space.vmem Cert.KernelIdeal.S5248 EltTy.i32)
local notation "cS" => (Memref.whole Cert.KernelIdeal.cc0_scratch1 : Memref Cert.KernelIdeal.sig Kind.scVector Space.vmem Cert.KernelIdeal.S5248 EltTy.i32)
local notation "vS" => (Memref.whole Cert.KernelIdeal.cc0_scratch2 : Memref Cert.KernelIdeal.sig Kind.scVector Space.vmem Cert.KernelIdeal.S5248 EltTy.f32)
local notation "oS" => (Memref.whole Cert.KernelIdeal.cc0_scratch3 : Memref Cert.KernelIdeal.sig Kind.scVector Space.vmem Cert.KernelIdeal.S32768 EltTy.f32)

section Tile

variable (d : Dev nD) (L : grid0.Coords)

abbrev cOf (L : grid0.Coords) : Fin τ.nSC := (L 0).castLE hcore0
abbrev jOf (L : grid0.Coords) : Fin τ.nSub := (L 1).castLE hsub0
abbrev VT : Thread nD τ := V d (cOf L) (jOf L)

/-- The tile's slab of the array, as the body slices it. -/
abbrev oSlab (L : grid0.Coords) : Memref sig .scVector .hbm S32768 .f32 :=
  (oV).slice (Rect.unit (s := S1048576) (k0_off3 L) S32768.size (k0_off3_inb L)) (fun _ => rfl)

/-- The four transfers' counters at zero. -/
abbrev cells0 : sProp 𝕄 :=
  iprop(semVal (VT d L, SemLoc.dma cc0_scoped0.sem) 0 ∗ semVal (VT d L, SemLoc.dma cc0_scoped1.sem) 0
    ∗ semVal (VT d L, SemLoc.dma cc0_scoped2.sem) 0 ∗ semVal (VT d L, SemLoc.dma cc0_scoped3.sem) 0)

/-- The zeroing loop's invariant: the slab zero below `16 k`. -/
def inv1 (k : Nat) (_ : PUnit) : sProp 𝕄 :=
  iprop(∃ f : S32768.Idx → F .f32, ⌜∀ j, (j 0).val < 16 * k → f j = Scalar.ofBits .f32 0x00000000#32⌝
    ∗ (oS).view.loc (VT d L) ↦{fullShare} f)

/-- The writing loop's invariant: the tables as fetched, the slab at the first `k` trips'. -/
def inv2 (r c : S5248.Idx → BitVec 32) (v : S5248.Idx → F .f32) (k : Nat) (_ : PUnit) : sProp 𝕄 :=
  iprop(((rS).view.loc (VT d L) ↦{fullShare} r) ∗ ((cS).view.loc (VT d L) ↦{fullShare} c) ∗ ((vS).view.loc (VT d L) ↦{fullShare} v)
    ∗ ((oS).view.loc (VT d L) ↦{fullShare} slabUpTo L r c v k))

/-- The coordinates of the tile whose slab holds flat place `j`: slab `w` is core `w % 2`'s subcore `w / 2`. -/
def coordsAt (j : S1048576.Idx) : grid0.Coords := fun
  | 0 => (⟨(j 0).val / 32768 % 2, Nat.mod_lt _ (by decide)⟩ : Fin 2)
  | 1 => (⟨(j 0).val / 32768 / 2, by have h : (j 0).val < 1048576 := (j 0).isLt; omega⟩ : Fin 16)
  | ⟨_ + 2, h⟩ => absurd h (Nat.not_lt.2 (Nat.le_add_left _ _))

/-- What the call leaves in the array: each tile's slab. -/
def flat (r c : S5248.Idx → BitVec 32) (v : S5248.Idx → F .f32) : S1048576.Idx → F .f32 := fun j =>
  slab (coordsAt j) r c v (Shape.ofLane (d := ![32768]) ⟨(j 0).val % 32768, Nat.mod_lt _ (by decide)⟩)

theorem trips1 : k0_t1_loop.trips = 2048 := by decide +kernel

omit [FloatOps F] in
/-- A slab's place in the array. -/
theorem emb_oSlab (x : S32768.Idx) :
    (((oSlab L).view.emb x : S1048576.Idx) 0).val = 65536 * (L 1).val + 32768 * (L 0).val + (x 0).val := by
  have h : (((oSlab L).view.emb x : S1048576.Idx) 0).val = (k0_off3 L) 0 + 1 * (x 0).val := rfl
  rw [h, k0_off3_eq]; simp

/-- On its slab the array holds what the tile computed. -/
theorem flat_emb (r c : S5248.Idx → BitVec 32) (v : S5248.Idx → F .f32) (x : S32768.Idx) :
    flat r c v ((oSlab L).view.emb x) = slab L r c v x := by
  have e := emb_oSlab L x
  have hx : (x 0).val < 32768 := (x 0).isLt
  have h0 : (L 0).val < 2 := (L 0).isLt
  have h1 : (L 1).val < 16 := (L 1).isLt
  have hL : coordsAt ((oSlab L).view.emb x) = L := by
    funext a
    match a with
    | 0 => refine Fin.ext ?_; show ((((oSlab L).view.emb x : S1048576.Idx) 0).val) / 32768 % 2 = _; omega
    | 1 => refine Fin.ext ?_; show ((((oSlab L).view.emb x : S1048576.Idx) 0).val) / 32768 / 2 = _; omega
    | ⟨_ + 2, h⟩ => exact absurd h (Nat.not_lt.2 (Nat.le_add_left _ _))
  unfold flat
  rw [hL]
  congr 1
  funext a
  obtain rfl : a = 0 := Subsingleton.elim _ _
  refine Fin.ext ?_
  show ((((oSlab L).view.emb x : S1048576.Idx) 0).val) % 32768 = _
  omega

omit [FloatOps F] in
/-- The scratch held whole, in an indexed store's spelling. -/
theorem pts_oS (f : S32768.Idx → F .f32) :
    (((oS).access (.whole S32768)).loc (VT d L) ↦[((oS).access (.whole S32768)).set]{fullShare} f : sProp 𝕄)
      = (oS).view.loc (VT d L) ↦{fullShare} f := by
  rw [show ((oS).access (.whole S32768)).set = Finset.univ from Memref.set_access_whole (cc0_scratch3 : Ref sig .scVector)]

omit [FloatOps F] in
theorem emb_whole_rect (s : Shape) (x : s.Idx) : ((Rect.whole s).emb x : s.Idx) = x := by
  funext a; refine Fin.ext ?_; rw [Rect.emb_apply]
  show 0 + 1 * (x a).val = _; omega

/-- What an indexed store leaves in the scratch. -/
theorem store_put (f : S32768.Idx → F .f32) (ix : IVec S16 32) (v : Vec F S16 .f32) (mask : IVec S16 1)
    (h : ∀ a x, ((![ix] : Fin 1 → IVec S16 32) a x).toNat < S32768.size a) :
    ((oS).access (.whole S32768)).write (Elt F) f
      (storeIdx (F := F) (((oS).access (.whole S32768)).read (Elt F) f) ![ix] v mask false h) Finset.univ = put f ix v mask := by
  have hread : ((oS).access (.whole S32768)).read (Elt F) f = f := by
    funext j
    exact congrArg f (emb_whole_rect S32768 j)
  rw [hread, storeIdx_eq_put]
  funext j
  have hw := View.write_emb_of_mem (Val := Elt F) (v := (oS).access (.whole S32768)) f (put f ix v mask) (M := Finset.univ) (x := j) (Finset.mem_univ j)
  exact (congrArg (((oS).access (.whole S32768)).write (Elt F) f (put f ix v mask) Finset.univ) (emb_whole_rect S32768 j).symm).trans hw

theorem tile_run (r c : S5248.Idx → BitVec 32) (v : S5248.Idx → F .f32) (hr : ∀ j, (r j).toNat < 1024) (hc : ∀ j, (c j).toNat < 1024)
    (qr qc qv : PosShare TreeShare)
    (O : CellTallies nD τ sig (HIx 1)) (W : Waits sig (HIx 1)) (o0 : Buf (Elt F) ((oSlab L).view.loc (VT d L)))
    (r0 : Buf (Elt F) ((rS).view.loc (VT d L))) (c0 : Buf (Elt F) ((cS).view.loc (VT d L))) (w0 : Buf (Elt F) ((vS).view.loc (VT d L)))
    (s0 : Buf (Elt F) ((oS).view.loc (VT d L))) :
    (iprop(Transfers.MayWaits (VT d L) (default : HIx 1) O
        ∗ ((rV).view.loc (VT d L) ↦{qr} r) ∗ ((cV).view.loc (VT d L) ↦{qc} c) ∗ ((vV).view.loc (VT d L) ↦{qv} v)
        ∗ ((oSlab L).view.loc (VT d L) ↦[(oSlab L).view.set]{fullShare} o0)
        ∗ ((rS).view.loc (VT d L) ↦{fullShare} r0) ∗ ((cS).view.loc (VT d L) ↦{fullShare} c0)
        ∗ ((vS).view.loc (VT d L) ↦{fullShare} w0) ∗ ((oS).view.loc (VT d L) ↦{fullShare} s0)
        ∗ cells0 d L ∗ owes (VT d L) O W) : sProp 𝕄)
      ⊢ wp frame (wpE (defs₀ (F := F)) 𝒱₀ (VT d L) none) Set.univ
          (cc0__build_s_body L rV (Memref.isWhole_whole _) cV (Memref.isWhole_whole _) vV (Memref.isWhole_whole _) oV (Memref.isWhole_whole _)
            rS (Memref.isWhole_whole _) cS (Memref.isWhole_whole _) vS (Memref.isWhole_whole _) oS (Memref.isWhole_whole _)
            cc0_scoped0 cc0_scoped1 cc0_scoped2 cc0_scoped3)
          fun _ => iprop(((rV).view.loc (VT d L) ↦{qr} r) ∗ ((cV).view.loc (VT d L) ↦{qc} c) ∗ ((vV).view.loc (VT d L) ↦{qv} v)
            ∗ ((oSlab L).view.loc (VT d L) ↦[(oSlab L).view.set]{fullShare} flat r c v)
            ∗ (∃ f, (rS).view.loc (VT d L) ↦{fullShare} f) ∗ (∃ f, (cS).view.loc (VT d L) ↦{fullShare} f)
            ∗ (∃ f, (vS).view.loc (VT d L) ↦{fullShare} f) ∗ (∃ f, (oS).view.loc (VT d L) ↦{fullShare} f)
            ∗ cells0 d L ∗ ∃ W', owes (VT d L) O W') := by
  rw [cc0__build_s_body_eq_skeleton]; unfold cc0__build_s_body_skel
  iintro ⟨#Hmw, HR, HC, HV, HO, Hr, Hc, Hv, Ho, ⟨Hs0, Hs1, Hs2, Hs3⟩, How⟩
  sl_exec
  sl_for (inv1 d L) $$ [Ho]
  case region =>
    intro k _
    unfold inv1
    iintro ⟨%f, %hf, Ho⟩
    sl_exec
    sl_step
    iexists ((oS).view.writes (Elt F) f [⟨Rect.unit (s := S32768) (k0_off1 k) S16.size (k0_off1_inb k), k0_pay1⟩]); isplitr [Ho]
    on_goal 2 => iexact Ho
    ipureintro
    intro j hj
    have e : (Memref.whole cc0_scratch3 : Memref sig .scVector .vmem S32768 .f32).view.writes (Elt F) f [⟨Rect.unit (s := S32768) (k0_off1 k) S16.size (k0_off1_inb k), k0_pay1⟩]
        = updateSlice f (k0_pay1 (F := F)) (k0_off1 k) ⟨rfl, k0_off1_inb k⟩ :=
      View.write_whole_slice_unit (Val := Elt F) cc0_scratch3 (k0_off1 k) S16.size (k0_off1_inb k) f (k0_pay1 (F := F))
    refine (congrFun e j).trans ?_
    unfold updateSlice
    by_cases hin : ∀ a : Fin S32768.rank, (k0_off1 k) a ≤ (j a).val ∧ (j a).val < (k0_off1 k) a + S16.size (a.cast rfl)
    · exact (dif_pos hin).trans rfl
    · refine (dif_neg hin).trans (hf j ?_)
      by_contra hlt
      refine hin fun a => ?_
      obtain rfl : a = 0 := Subsingleton.elim _ _
      rw [k0_off1_eq]
      show 16 * k.val ≤ (j 0).val ∧ (j 0).val < 16 * k.val + 16
      omega
  · unfold inv1; iexists s0; isplitr [Ho]
    · ipureintro; intro j h; exact absurd h (by omega)
    · iexact Ho
  iintro %acc Ho; unfold inv1; icases Ho with ⟨%f, %hf, Ho⟩
  sl_for (inv2 d L r c v) $$ [Hr Hc Hv Ho]
  case region =>
    intro k _
    unfold inv2
    iintro ⟨Hr, Hc, Hv, Ho⟩
    sl_exec
    have hk1 : k0_chk1 (tile_run.sl.v26 (F := F) L r c k) := chk1 L (lanes r k) (lanes c k) (fun x => hc _)
    rw [wp_assume_of _ _ _ _ hk1]
    ihave Ho' := (Entails.of_eq (pts_oS (F := F) d L _).symm) $$ Ho
    iapply (SparseCore.wp_vectorStoreIdx 𝒱₀ (VT d L) none Set.univ (base := oS)) $$ Ho'; iintro Ho'
    have hk2 : k0_chk2 (k0_pay7 (F := F) L
      ((rS).view.readAt (Elt F) (Rect.unit (s := S5248) (k0_off2 k) S16.size (k0_off2_inb k)).toLoadRect r)
      ((cS).view.readAt (Elt F) (Rect.unit (s := S5248) (k0_off2 k) S16.size (k0_off2_inb k)).toLoadRect c)) :=
      chk2 L (lanes r k) (lanes c k) (fun x => hr _)
    ihave Ho := (Entails.of_eq (congrArg (fun f => ((oS).access (.whole S32768)).loc (VT d L) ↦[((oS).access (.whole S32768)).set]{fullShare} f) (store_put (F := F) _ _ _ _ _) |>.trans (pts_oS (F := F) d L _))) $$ Ho'
    sl_exec
    ihave Ho' := (Entails.of_eq (pts_oS (F := F) d L _).symm) $$ Ho
    iapply (SparseCore.wp_vectorStoreIdx 𝒱₀ (VT d L) none Set.univ (base := oS)) $$ Ho'; iintro Ho'
    ihave Ho := (Entails.of_eq (congrArg (fun f => ((oS).access (.whole S32768)).loc (VT d L) ↦[((oS).access (.whole S32768)).set]{fullShare} f) (store_put (F := F) _ _ _ _ _) |>.trans (pts_oS (F := F) d L _))) $$ Ho'
    sl_step
    isplitl [Hr]; · iexact Hr
    isplitl [Hc]; · iexact Hc
    isplitl [Hv]; · iexact Hv
    iapply (Entails.of_eq (congrArg (fun f => ((oS).view.loc (VT d L) ↦{fullShare} f : sProp 𝕄)) (slabUpTo_succ L r c v k).symm))
    iexact Ho
  · unfold inv2
    isplitl [Hr]; · iapply (Entails.of_eq (congrArg (fun f => ((rS).view.loc (VT d L) ↦{fullShare} f : sProp 𝕄)) (View.write_whole_univ cc0_scratch0 r0 r))); iexact Hr
    isplitl [Hc]; · iapply (Entails.of_eq (congrArg (fun f => ((cS).view.loc (VT d L) ↦{fullShare} f : sProp 𝕄)) (View.write_whole_univ cc0_scratch1 c0 c))); iexact Hc
    isplitl [Hv]; · iapply (Entails.of_eq (congrArg (fun f => ((vS).view.loc (VT d L) ↦{fullShare} f : sProp 𝕄)) (View.write_whole_univ cc0_scratch2 w0 v))); iexact Hv
    have hz : f = slabUpTo L r c v 0 := by
      funext j
      refine hf j ?_
      have h1 : (j 0).val < 32768 := (j 0).isLt
      have h2 : Scf.trips k0_t1_loop.lb k0_t1_loop.ub k0_t1_loop.st = 2048 := trips1
      omega
    iapply (Entails.of_eq (congrArg (fun f => ((oS).view.loc (VT d L) ↦{fullShare} f : sProp 𝕄)) hz)); iexact Ho
  iintro %acc' H; unfold inv2; icases H with ⟨Hr, Hc, Hv, Ho⟩
  sl_exec
  sl_step
  isplitl [HR]; · iexact HR
  isplitl [HC]; · iexact HC
  isplitl [HV]; · iexact HV
  isplitl [HO]
  · have hfl : ∀ j ∈ (oSlab L).view.set, (oSlab L).view.writes (Elt F) o0 [⟨Rect.whole S32768, slab L r c v⟩] j = flat r c v j := by
      intro j hj
      obtain ⟨x, -, rfl⟩ := Finset.mem_map.mp hj
      rw [flat_emb]
      have hx := emb_whole_rect S32768 x
      have he : (oSlab L).view.emb x = ((oSlab L).view.slice (Rect.whole S32768)).emb x := congrArg (oSlab L).view.emb hx.symm
      rw [he]
      exact View.write_emb_of_mem (v := (oSlab L).view.slice (Rect.whole S32768)) o0 (slab L r c v) (Finset.mem_univ x)
    iapply (Entails.of_eq (pointsTo_congr (ℓ := (oSlab L).view.loc (VT d L)) (q := fullShare) hfl)); iexact HO
  isplitl [Hr]; · iexists _; iexact Hr
  isplitl [Hc]; · iexists _; iexact Hc
  isplitl [Hv]; · iexists _; iexact Hv
  isplitl [Ho]; · iexists _; iexact Ho
  isplitl [Hs0 Hs1 Hs2 Hs3]
  · isplitl [Hs0]; · iexact Hs0
    isplitl [Hs1]; · iexact Hs1
    isplitl [Hs2]; · iexact Hs2
    iexact Hs3
  iexists _; iexact How

end Tile

end Cert.Proof

end
-- ==== Proof.Call.lean ====
/-
  The SparseCore call: what each tile is handed and hands back, and the launch theorem's obligations about it.
-/
module

public import proofs.«01_k».proof.Proof.Tile

@[expose] public section

noncomputable section

namespace Cert.Proof

open Cert.KernelIdeal Cert.KernelIdeal.Gen

open Idealize.ShloMosaic
open Idealize.ShloMosaic.SparseCore (S V T)
open Idealize.ShloMosaic.SparseCore.Cfg (HIx Pay ownBufs ownSems0 ownCells ownRefs mem_ownCells)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

local notation "rV" => (Memref.whole Cert.KernelIdeal.main_v1_scv : Memref Cert.KernelIdeal.sig Kind.scVector Space.hbm Cert.KernelIdeal.S5248 EltTy.i32)
local notation "cV" => (Memref.whole Cert.KernelIdeal.main_v3_scv : Memref Cert.KernelIdeal.sig Kind.scVector Space.hbm Cert.KernelIdeal.S5248 EltTy.i32)
local notation "vV" => (Memref.whole Cert.KernelIdeal.main_v5_scv : Memref Cert.KernelIdeal.sig Kind.scVector Space.hbm Cert.KernelIdeal.S5248 EltTy.f32)
local notation "oV" => (Memref.whole Cert.KernelIdeal.main_v6_scv : Memref Cert.KernelIdeal.sig Kind.scVector Space.hbm Cert.KernelIdeal.S1048576 EltTy.f32)
local notation "rS" => (Memref.whole Cert.KernelIdeal.cc0_scratch0 : Memref Cert.KernelIdeal.sig Kind.scVector Space.vmem Cert.KernelIdeal.S5248 EltTy.i32)
local notation "cS" => (Memref.whole Cert.KernelIdeal.cc0_scratch1 : Memref Cert.KernelIdeal.sig Kind.scVector Space.vmem Cert.KernelIdeal.S5248 EltTy.i32)
local notation "vS" => (Memref.whole Cert.KernelIdeal.cc0_scratch2 : Memref Cert.KernelIdeal.sig Kind.scVector Space.vmem Cert.KernelIdeal.S5248 EltTy.f32)
local notation "oS" => (Memref.whole Cert.KernelIdeal.cc0_scratch3 : Memref Cert.KernelIdeal.sig Kind.scVector Space.vmem Cert.KernelIdeal.S32768 EltTy.f32)

abbrev rLoc (d : Dev nD) : Loc nD τ sig := (SparseCore.T d).loc main_v1
abbrev cLoc (d : Dev nD) : Loc nD τ sig := (SparseCore.T d).loc main_v3
abbrev vLoc (d : Dev nD) : Loc nD τ sig := (SparseCore.T d).loc main_v5
abbrev oLoc (d : Dev nD) : Loc nD τ sig := (SparseCore.T d).loc main_v6

/-- The contents at the call: the tables of rows, columns and values, and whatever the array held. -/
structure Tabs (F : FTy → Type) where
  r : Dev nD → S5248.Idx → BitVec 32
  c : Dev nD → S5248.Idx → BitVec 32
  v : Dev nD → S5248.Idx → F .f32
  o : Dev nD → S1048576.Idx → F .f32

/-- Every row and column is below 1024. -/
def Tabs.Below (t : Tabs F) : Prop := ∀ d j, (t.r d j).toNat < 1024 ∧ (t.c d j).toNat < 1024

/-- A tile's read share of the tables, by its coordinates. -/
abbrev tq (L : grid0.Coords) : PosShare TreeShare := Transfers.shareTokN fullShare ((L 0).val * 16 + (L 1).val)

variable (t : Tabs F)

/-- What a tile holds: its read shares of the tables, its slab of the array at `f`. -/
abbrev piece (d : Dev nD) (L : grid0.Coords) (f : S1048576.Idx → F .f32) : sProp 𝕄 :=
  iprop((rLoc d ↦{tq L} t.r d) ∗ (cLoc d ↦{tq L} t.c d) ∗ (vLoc d ↦{tq L} t.v d) ∗ oLoc d ↦[(oSlab L).view.set]{fullShare} f)

abbrev fl (d : Dev nD) : S1048576.Idx → F .f32 := flat (t.r d) (t.c d) (t.v d)

def coordsV (c : Fin (grid0.bound 0)) (s : Fin (grid0.bound 1)) : grid0.Coords :=
  fun | 0 => c | 1 => s | ⟨_ + 2, h⟩ => absurd h (Nat.not_lt.2 (Nat.le_add_left _ _))

/-- A tile's piece by the core and the subcore. -/
abbrev pieceAt (d : Dev nD) (f : S1048576.Idx → F .f32) (p : Fin 2 × Fin 16) : sProp 𝕄 := piece t d (coordsV p.1 p.2) f

def P : (K (F := F)).Pay (nD := nD) (Val := Elt F) (Name := ℕ) (U := UU) where
  st := fun q d c => match q with | 0 => bigSep Finset.univ fun i : Fin 16 => pieceAt t d (t.o d) (c, i)
  dn := fun q d c => match q with | 0 => bigSep Finset.univ fun i : Fin 16 => pieceAt t d (fl t d) (c, i)
  go := fun q d c i => match q with | 0 => pieceAt t d (t.o d) (c, i)
  td := fun q d c i => match q with | 0 => pieceAt t d (fl t d) (c, i)
  x := fun _ _ => iprop(emp)

instance P_storable : (P t).IsStorable where
  st q d c := match q with
    | 0 => (inferInstance : BI.Storable (upEmb : UEmb _ 𝕄) (bigSep Finset.univ fun i : Fin 16 => pieceAt t d (t.o d) (c, i)))
  dn q d c := match q with
    | 0 => (inferInstance : BI.Storable (upEmb : UEmb _ 𝕄) (bigSep Finset.univ fun i : Fin 16 => pieceAt t d (fl t d) (c, i)))
  go q d c i := match q with | 0 => (inferInstance : BI.Storable (upEmb : UEmb _ 𝕄) (pieceAt t d (t.o d) (c, i)))
  td q d c i := match q with | 0 => (inferInstance : BI.Storable (upEmb : UEmb _ 𝕄) (pieceAt t d (fl t d) (c, i)))

section Own

variable (d : Dev nD) (L : grid0.Coords)

abbrev csem (k : Fin 4) : DmaSem sig := ⟨k.val, Nat.lt_of_lt_of_le k.isLt (by decide)⟩
abbrev dcell (d : Dev nD) (c : Fin τ.nSC) (i : Fin τ.nSub) (k : Fin 4) : GSem nD τ sig := (V d c i, .dma (csem k))

omit [FloatOps F] in
theorem dcell_mem (c : Fin τ.nSC) (i : Fin τ.nSub) (k : Fin 4) : dcell d c i k ∈ ownCells (V d c i) :=
  mem_ownCells.mpr ⟨rfl, (show ∀ k : Fin 4, (SemLoc.dma (csem k) : SemLoc sig).isScoped .scVector = true by decide) k⟩

omit [FloatOps F] in
/-- The subcore's own cells at zero: the four the body names and the rest. -/
theorem ownSems0_V :
    (ownSems0 (VT d L) : sProp 𝕄)
      = iprop(cells0 d L
          ∗ bigSep ((ownCells (VT d L)) \ Finset.univ.image (dcell d (cOf L) (jOf L))) fun g => semVal g 0) := by
  unfold SparseCore.Cfg.ownSems0
  rw [SparseCore.bigSep_sdiff_split' (t := Finset.univ.image (dcell d (cOf L) (jOf L)))
      (Finset.image_subset_iff.mpr fun k _ => dcell_mem d (cOf L) (jOf L) k),
    SparseCore.bigSep_image_of_injOn (fun a _ b _ h => by
      have := congrArg (fun g : GSem nD τ sig => g.2) h
      simp only [SemLoc.dma.injEq, Fin.mk.injEq] at this; exact Fin.ext this)]
  rw [show (Finset.univ : Finset (Fin 4)) = {0, 1, 2, 3} by decide,
    SparseCore.bigSep_insert' (by decide), SparseCore.bigSep_insert' (by decide), SparseCore.bigSep_insert' (by decide), bigSep_singleton]
  rfl

abbrev tref (b : Ref sig .scVector) : DevRef τ sig := (Proc.scVector (cOf L) (jOf L)).devRef b

omit [FloatOps F] in
/-- The subcore's own buffers: the four scratches at some contents and the rest. -/
theorem ownBufs_V :
    (ownBufs (VT d L) : sProp 𝕄)
      = iprop((∃ f, (VT d L).loc cc0_scratch0 ↦{fullShare} f) ∗ (∃ f, (VT d L).loc cc0_scratch1 ↦{fullShare} f)
          ∗ (∃ f, (VT d L).loc cc0_scratch2 ↦{fullShare} f) ∗ (∃ f, (VT d L).loc cc0_scratch3 ↦{fullShare} f)
          ∗ bigSep (((((ownRefs (τ := τ) (.scVector (cOf L) (jOf L))).erase (tref L cc0_scratch0)).erase (tref L cc0_scratch1)).erase
              (tref L cc0_scratch2)).erase (tref L cc0_scratch3))
              fun b => iprop(∃ f, ((d, b) : Loc nD τ sig) ↦{fullShare} f)) := by
  have ne : ∀ {a b : Ref sig .scVector}, a ≠ b → tref L a ≠ tref L b := fun h e => h (Proc.devRef_injective _ e)
  unfold SparseCore.Cfg.ownBufs
  refine (SparseCore.bigSep_erase' (SparseCore.Cfg.mem_ownRefs_of_owner (p := Proc.scVector (cOf L) (jOf L)) (b := tref L cc0_scratch0) rfl)).trans ?_
  rw [SparseCore.bigSep_erase' (Finset.mem_erase.mpr ⟨ne (show (cc0_scratch1 : Ref sig .scVector) ≠ cc0_scratch0 by decide), SparseCore.Cfg.mem_ownRefs_of_owner (p := Proc.scVector (cOf L) (jOf L)) (b := tref L cc0_scratch1) rfl⟩),
    SparseCore.bigSep_erase' (Finset.mem_erase.mpr ⟨ne (show (cc0_scratch2 : Ref sig .scVector) ≠ cc0_scratch1 by decide),
      Finset.mem_erase.mpr ⟨ne (show (cc0_scratch2 : Ref sig .scVector) ≠ cc0_scratch0 by decide), SparseCore.Cfg.mem_ownRefs_of_owner (p := Proc.scVector (cOf L) (jOf L)) (b := tref L cc0_scratch2) rfl⟩⟩),
    SparseCore.bigSep_erase' (Finset.mem_erase.mpr ⟨ne (show (cc0_scratch3 : Ref sig .scVector) ≠ cc0_scratch2 by decide),
      Finset.mem_erase.mpr ⟨ne (show (cc0_scratch3 : Ref sig .scVector) ≠ cc0_scratch1 by decide),
        Finset.mem_erase.mpr ⟨ne (show (cc0_scratch3 : Ref sig .scVector) ≠ cc0_scratch0 by decide), SparseCore.Cfg.mem_ownRefs_of_owner (p := Proc.scVector (cOf L) (jOf L)) (b := tref L cc0_scratch3) rfl⟩⟩⟩)]

end Own

/-- The task as the launch runs it. -/
theorem tile_body (hF : (K (F := F)).Facts) (hb : t.Below) (d : Dev nD) (L : grid0.Coords)
    (O : CellTallies nD τ sig (HIx 1)) (W : Waits sig (HIx 1)) (hO : ∀ g, O g none = 0) :
    (iprop(levAts (K (F := F)).L (K (F := F)).lev ∗ emp ∗ piece t d L (t.o d) ∗ scopedBufs (VT d L) ∗ scopedSems0 (VT d L) ∗ owes (VT d L) O W) : sProp 𝕄)
      ⊢ wp frame (wpE (defs₀ (F := F)) 𝒱₀ (VT d L) none) Set.univ
          (cc0__build_s_body L rV (Memref.isWhole_whole _) cV (Memref.isWhole_whole _) vV (Memref.isWhole_whole _) oV (Memref.isWhole_whole _)
            rS (Memref.isWhole_whole _) cS (Memref.isWhole_whole _) vS (Memref.isWhole_whole _) oS (Memref.isWhole_whole _)
            cc0_scoped0 cc0_scoped1 cc0_scoped2 cc0_scoped3)
          fun _ => iprop(piece t d L (fl t d) ∗ scopedBufs (VT d L) ∗ scopedSems0 (VT d L)
            ∗ ∃ W', ⌜∀ p ∈ W', p ∈ W ∨ p.2 = none ∨ p.2 = some (0 : Fin 1)⌝ ∗ owes (VT d L) O W') := by
  rw [(K (F := F)).scopedBufs_V hF d (cOf L) (jOf L), SparseCore.Cfg.scopedSems0_V (Val := Elt F) d (cOf L) (jOf L), ownSems0_V, ownBufs_V]
  iintro ⟨#Hlv, -, ⟨Hr, Hc, Hv, Ho⟩, ⟨⟨%r0, HR⟩, ⟨%c0, HC⟩, ⟨%w0, HV⟩, ⟨%s0, HS⟩, Hbufs⟩, ⟨Hcells, Hsems⟩, HO⟩
  ihave Hmw := (show levAts (K (F := F)).L (K (F := F)).lev ⊢ Transfers.MayWaits (VT d L) (default : HIx 1) O from
    (K (F := F)).mayWaits_none (thr := VT d L) hO) $$ Hlv
  iapply (wp_wand_r Idealize.ShloMosaic.frame (wpE (defs₀ (F := F)) 𝒱₀ (VT d L) none) Set.univ)
  isplitl [Hr Hc Hv Ho HR HC HV HS Hcells HO]
  · iapply (tile_run d L (t.r d) (t.c d) (t.v d) (fun j => (hb d j).1) (fun j => (hb d j).2) (tq L) (tq L) (tq L) O W (t.o d) r0 c0 w0 s0)
    isplitr; · iexact Hmw
    isplitl [Hr]; · iexact Hr
    isplitl [Hc]; · iexact Hc
    isplitl [Hv]; · iexact Hv
    isplitl [Ho]; · iexact Ho
    isplitl [HR]; · iexact HR
    isplitl [HC]; · iexact HC
    isplitl [HV]; · iexact HV
    isplitl [HS]; · iexact HS
    isplitl [Hcells]; · iexact Hcells
    iexact HO
  iintro %_ ⟨Hr, Hc, Hv, Ho, HR, HC, HV, HS, Hcells, ⟨%W', HO⟩⟩
  isplitl [Hr Hc Hv Ho]
  · isplitl [Hr]; · iexact Hr
    isplitl [Hc]; · iexact Hc
    isplitl [Hv]; · iexact Hv
    iexact Ho
  isplitl [HR HC HV HS Hbufs]
  · isplitl [HR]; · iexact HR
    isplitl [HC]; · iexact HC
    isplitl [HV]; · iexact HV
    isplitl [HS]; · iexact HS
    iexact Hbufs
  isplitl [Hcells Hsems]
  · isplitl [Hcells]; · iexact Hcells
    iexact Hsems
  iexists W'; isplitr
  · ipureintro; intro p _
    rcases p.2 with _ | q
    · exact .inr (.inl rfl)
    · exact .inr (.inr (congrArg some (Subsingleton.elim q 0)))
  · iexact HO

theorem defs₀_vector (c : Fin τ.nSC) (s : Fin τ.nSub) :
    defs₀ (F := F) (.scVector c s) 0 ()
      = SparseCore.onTile hcore0 hsub0 (fun c s => cc0__build_s_body (coordsV c s) rV (Memref.isWhole_whole _) cV (Memref.isWhole_whole _)
          vV (Memref.isWhole_whole _) oV (Memref.isWhole_whole _)
          rS (Memref.isWhole_whole _) cS (Memref.isWhole_whole _) vS (Memref.isWhole_whole _) oS (Memref.isWhole_whole _)
          cc0_scoped0 cc0_scoped1 cc0_scoped2 cc0_scoped3) ⟨⟩ c s := rfl

theorem tileObl (hF : (K (F := F)).Facts) (hb : t.Below) : (K (F := F)).TileObl (D (F := F)) 𝒱 (P t) v₀ 0 := by
  intro d c i O W hO _ _
  simp only [show (P t).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body t hF hb d (coordsV ⟨_, hci.1⟩ ⟨_, hci.2⟩) O W hO

theorem vecSplit : (K (F := F)).VecSplit' (P t) 0 := by
  intro d c
  show (bigSep Finset.univ fun i : Fin 16 => pieceAt t d (t.o d) (c, i)) ⊢ |={Set.univ}=> iprop(
      (bigSep Finset.univ fun i : Fin ((K (F := F)).nSub 0) => pieceAt t d (t.o d) (c, i))
      ∗ ((bigSep Finset.univ fun i : Fin ((K (F := F)).nSub 0) => pieceAt t d (fl t d) (c, i))
          -∗ (bigSep Finset.univ fun i : Fin 16 => pieceAt t d (fl t d) (c, i))))
  iintro H; imodintro
  isplitl [H]; · iexact H
  iintro H; iexact H

/-! ## The call's arrays as the tiles' pieces -/

omit [FloatOps F] in
theorem mem_slab (L : grid0.Coords) (j : S1048576.Idx) :
    j ∈ (oSlab L).view.set ↔ 65536 * (L 1).val + 32768 * (L 0).val ≤ (j 0).val ∧ (j 0).val < 65536 * (L 1).val + 32768 * (L 0).val + 32768 := by
  constructor
  · intro h
    obtain ⟨x, -, rfl⟩ := Finset.mem_map.mp h
    have e := emb_oSlab L x
    have hx : (x 0).val < 32768 := (x 0).isLt
    constructor <;> omega
  · rintro ⟨h1, h2⟩
    refine Finset.mem_map.mpr ⟨Shape.ofLane (d := ![32768]) ⟨(j 0).val - (65536 * (L 1).val + 32768 * (L 0).val), by show _ < 32768; omega⟩, Finset.mem_univ _, ?_⟩
    funext a
    obtain rfl : a = 0 := Subsingleton.elim _ _
    refine Fin.ext ?_
    rw [emb_oSlab]
    show _ + _ + ((j 0).val - _) = _
    omega

abbrev slabSet (p : Fin 2 × Fin 16) : Finset S1048576.Idx := (oSlab (coordsV p.1 p.2)).view.set

omit [FloatOps F] in
theorem slabs_disjoint : ∀ p ∈ (Finset.univ : Finset (Fin 2 × Fin 16)), ∀ p' ∈ (Finset.univ : Finset (Fin 2 × Fin 16)), p ≠ p' →
    Disjoint (slabSet p) (slabSet p') := by
  rintro ⟨c, i⟩ _ ⟨c', i'⟩ _ h
  refine Finset.disjoint_left.mpr fun j hj hj' => h ?_
  have a := (mem_slab _ j).mp hj
  have b := (mem_slab _ j).mp hj'
  change 65536 * i.val + 32768 * c.val ≤ _ ∧ _ < 65536 * i.val + 32768 * c.val + 32768 at a
  change 65536 * i'.val + 32768 * c'.val ≤ _ ∧ _ < 65536 * i'.val + 32768 * c'.val + 32768 at b
  have hc := c.isLt; have hc' := c'.isLt
  exact Prod.ext (Fin.ext (by show c.val = c'.val; omega)) (Fin.ext (by show i.val = i'.val; omega))

omit [FloatOps F] in
theorem slabs_cover : (Finset.univ : Finset (Fin 2 × Fin 16)).biUnion slabSet = Finset.univ := by
  have key : ∀ (j : S1048576.Idx) (c : Fin 2) (i : Fin 16),
      65536 * i.val + 32768 * c.val ≤ (j 0).val ∧ (j 0).val < 65536 * i.val + 32768 * c.val + 32768 → j ∈ slabSet (c, i) :=
    fun j c i h => (mem_slab (coordsV c i) j).mpr h
  refine Finset.eq_univ_of_forall fun j => Finset.mem_biUnion.mpr ?_
  have hj : (j 0).val < 1048576 := (j 0).isLt
  obtain ⟨w, hw⟩ : ∃ w, w = (j 0).val / 32768 := ⟨_, rfl⟩
  refine ⟨(⟨w % 2, Nat.mod_lt _ (by decide)⟩, ⟨w / 2, by omega⟩), Finset.mem_univ _, key j _ _ ?_⟩
  dsimp only
  omega

omit [FloatOps F] in
theorem o_slabs (d : Dev nD) (f : S1048576.Idx → F .f32) :
    (oLoc d ↦{fullShare} f : sProp 𝕄) = bigSep Finset.univ fun p : Fin 2 × Fin 16 => oLoc d ↦[slabSet p]{fullShare} f := by
  rw [← pointsTo_biUnion Finset.univ (ℓ := oLoc d) slabSet slabs_disjoint, slabs_cover]

omit [FloatOps F] in
/-- A table held whole is the tiles' read shares and a rest. -/
theorem table_shares (ℓ : Loc nD τ sig) (f : Buf (Elt F) ℓ) :
    (ℓ ↦{fullShare} f : sProp 𝕄) = iprop((ℓ ↦{Transfers.shareDrop fullShare 32} f)
      ∗ bigSep Finset.univ fun p : Fin 2 × Fin 16 => ℓ ↦{tq (coordsV p.1 p.2)} f) := by
  refine (BI.Entails.antisymm (Transfers.pointsTo_toks fullShare 32).1 (Transfers.pointsTo_toks fullShare 32).2).trans ?_
  refine congrArg (fun X : sProp 𝕄 => iprop((ℓ ↦{Transfers.shareDrop fullShare 32} f) ∗ X)) ?_
  refine (bigSep_univ_equiv (finProdFinEquiv : Fin 2 × Fin 16 ≃ Fin 32) _).trans (bigSep_congr fun p _ => ?_)
  have e : (finProdFinEquiv p : Fin 32).val = p.1.val * 16 + p.2.val := by
    show p.2.val + 16 * p.1.val = _; omega
  show (ℓ ↦{Transfers.shareTokN fullShare (finProdFinEquiv p : Fin 32).val} f : sProp 𝕄) = _
  rw [e]; rfl

/-- What stays behind while the call runs. -/
abbrev rests (d : Dev nD) : sProp 𝕄 :=
  iprop((rLoc d ↦{Transfers.shareDrop fullShare 32} t.r d) ∗ (cLoc d ↦{Transfers.shareDrop fullShare 32} t.c d)
    ∗ vLoc d ↦{Transfers.shareDrop fullShare 32} t.v d)

/-- The four arrays held whole are the tiles' pieces, by core and subcore, and what stays behind. -/
theorem whole_pieces (d : Dev nD) (f : S1048576.Idx → F .f32) :
    (iprop((rLoc d ↦{fullShare} t.r d) ∗ (cLoc d ↦{fullShare} t.c d) ∗ (vLoc d ↦{fullShare} t.v d) ∗ oLoc d ↦{fullShare} f) : sProp 𝕄)
      ⊣⊢ iprop(rests t d ∗ bigSep Finset.univ fun c : Fin 2 => bigSep Finset.univ fun i : Fin 16 => pieceAt t d f (c, i)) := by
  rw [← bigSep_univ_prod (fun p : Fin 2 × Fin 16 => pieceAt t d f p), bigSep_sep', bigSep_sep', bigSep_sep',
    table_shares (rLoc d), table_shares (cLoc d), table_shares (vLoc d), o_slabs]
  constructor
  · iintro ⟨⟨Hr, Hrs⟩, ⟨Hc, Hcs⟩, ⟨Hv, Hvs⟩, Ho⟩
    isplitl [Hr Hc Hv]
    · isplitl [Hr]; · iexact Hr
      isplitl [Hc]; · iexact Hc
      iexact Hv
    isplitl [Hrs]; · iexact Hrs
    isplitl [Hcs]; · iexact Hcs
    isplitl [Hvs]; · iexact Hvs
    iexact Ho
  · iintro ⟨⟨Hr, Hc, Hv⟩, Hrs, Hcs, Hvs, Ho⟩
    isplitl [Hr Hrs]; · isplitl [Hr] <;> iassumption
    isplitl [Hc Hcs]; · isplitl [Hc] <;> iassumption
    isplitl [Hv Hvs]; · isplitl [Hv] <;> iassumption
    iexact Ho

end Cert.Proof

end
-- ==== Proof.Cayley.lean ====
/-
  The dense kernel that turns the skew matrix into the two stacked matrices: its body run once, and the region of
  @main that launches it.
-/
module

public import proofs.«01_k».proof.Proof.Common
public import Idealize.ShloMosaic.Lib.Pipeline.FrameBody
public import Idealize.ShloMosaic.Lib.Pipeline.Value
public import Idealize.ShloMosaic.Lib.Pipeline.RegionsLoop

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- A memref's buffer on device `c`'s TensorCore, held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- A whole memref read as `X` is its buffer held at contents that read so. -/
theorem owns_pt (c : Dev nD) {sp : Space} {S : Shape} {e : EltTy} (M : Memref sig .tc sp S e) (h : M.IsWhole) (X : S.Idx → Elt F e) :
    (owns (c : Thread nD τ) M fullShare X : sProp 𝕄) = iprop(∃ f : Bf (F := F) c M, ⌜M.view.read (Elt F) f = X⌝ ∗ pt c M f) := by
  unfold owns; rw [h.set_eq_univ]

/-- Two square matrices, one above the other. -/
def stack (a b : S1024x1024.Idx → F .f32) : S2048x1024.Idx → F .f32 := fun i =>
  if h : (i 0).val < 1024 then a (fun | 0 => ⟨(i 0).val, h⟩ | 1 => ⟨(i 1).val, (i 1).isLt⟩)
  else b (fun | 0 => ⟨(i 0).val - 1024, by have := (i 0).isLt; show _ < 1024; change (i 0).val < 2048 at this; omega⟩ | 1 => ⟨(i 1).val, (i 1).isLt⟩)

/-- What the dense kernel leaves of the skew matrix `X`. -/
def cayley (X : S1024x1024.Idx → F .f32) : S2048x1024.Idx → F .f32 := stack (k1_pay1 X) (k1_pay2 X)

abbrev topR : Rect S2048x1024 := Rect.unit (s := S2048x1024) ![0, 0] S1024x1024.size inb_S2048x1024_S1024x1024_0_0
abbrev botR : Rect S2048x1024 := Rect.unit (s := S2048x1024) ![1024, 0] S1024x1024.size inb_S2048x1024_S1024x1024_1024_0

theorem stack_top (a b : S1024x1024.Idx → F .f32) (x : S1024x1024.Idx) : stack a b (topR.emb x) = a x := by
  have h0 : (topR.emb x 0).val = (x 0).val := by show 0 + 1 * (x 0).val = _; omega
  have h1 : (topR.emb x 1).val = (x 1).val := by show 0 + 1 * (x 1).val = _; omega
  unfold stack
  rw [dif_pos (show (topR.emb x 0).val < 1024 by rw [h0]; exact (x 0).isLt)]
  exact congrArg a (Shape.idx_ext₂ h0 h1)

theorem stack_bot (a b : S1024x1024.Idx → F .f32) (x : S1024x1024.Idx) : stack a b (botR.emb x) = b x := by
  have h0 : (botR.emb x 0).val = 1024 + (x 0).val := by show 1024 + 1 * (x 0).val = _; omega
  have h1 : (botR.emb x 1).val = (x 1).val := by show 0 + 1 * (x 1).val = _; omega
  unfold stack
  rw [dif_neg (show ¬ (botR.emb x 0).val < 1024 by rw [h0]; omega)]
  exact congrArg b (Shape.idx_ext₂ (by show (botR.emb x 0).val - 1024 = _; rw [h0]; omega) h1)

/-- Every row is in the upper half or the lower. -/
theorem top_or_bot (i : S2048x1024.Idx) : (∃ x, topR.emb x = i) ∨ ∃ x, botR.emb x = i := by
  have hi0 : (i 0).val < 2048 := (i 0).isLt
  have hi1 : (i 1).val < 1024 := (i 1).isLt
  by_cases h : (i 0).val < 1024
  · refine .inl ⟨fun | 0 => ⟨(i 0).val, h⟩ | 1 => ⟨(i 1).val, hi1⟩, Shape.idx_ext₂ ?_ ?_⟩
    · show 0 + 1 * (i 0).val = _; omega
    · show 0 + 1 * (i 1).val = _; omega
  · refine .inr ⟨fun | 0 => ⟨(i 0).val - 1024, by show _ < 1024; omega⟩ | 1 => ⟨(i 1).val, hi1⟩, Shape.idx_ext₂ ?_ ?_⟩
    · show 1024 + 1 * ((i 0).val - 1024) = _; omega
    · show 0 + 1 * (i 1).val = _; omega

/-- Two writes that share no index and cover leave whatever agrees with both. -/
theorem canon_two {S : Shape} {e : EltTy} (r₀ r₁ : Rect S) (b : r₀.shape.Idx → Elt F e) (a : r₁.shape.Idx → Elt F e) (g : S.Idx → Elt F e)
    (hd : ∀ x, r₁.emb x ∉ r₀.set) (hb : ∀ x, g (r₀.emb x) = b x) (ha : ∀ x, g (r₁.emb x) = a x)
    (hc : ∀ i, (∃ x, r₁.emb x = i) ∨ ∃ x, r₀.emb x = i) :
    View.canon (Val := Elt F) [⟨r₀, b⟩, ⟨r₁, a⟩] = g := by
  funext i
  rcases hc i with ⟨x, rfl⟩ | ⟨x, rfl⟩
  · rw [View.canon_cons_of_not_mem _ _ (hd x), View.canon_cons_emb, ha]
  · rw [View.canon_cons_emb, hb]

theorem top_not_bot (x : S1024x1024.Idx) : topR.emb x ∉ botR.set := fun h => by
  obtain ⟨y, hy⟩ := botR.exists_idx_of_mem h
  have h2 : (botR.emb y 0).val = (topR.emb x 0).val := congrArg (fun i : S2048x1024.Idx => (i 0).val) hy
  have h4 : (topR.emb x 0).val = (x 0).val := by show 0 + 1 * (x 0).val = _; omega
  have h5 : (botR.emb y 0).val = 1024 + (y 0).val := by show 1024 + 1 * (y 0).val = _; omega
  have h3 : (x 0).val < 1024 := (x 0).isLt
  omega

theorem canon_stack (a b : S1024x1024.Idx → F .f32) :
    View.canon (Val := Elt F) (s := S2048x1024) (e := .f32) [⟨botR, b⟩, ⟨topR, a⟩] = stack a b :=
  canon_two (e := .f32) botR topR b a (stack a b) top_not_bot (stack_bot a b) (stack_top a b) top_or_bot

theorem zeros₂ : (![0, 0] : Fin 2 → ℕ) = fun _ => 0 := funext (Fin.forall_fin_two.2 ⟨rfl, rfl⟩)

/-- The kernel's body: from the matrix in one buffer it leaves the stacked pair in the other. -/
theorem cayley_run (c : Dev nD) (M0 : Memref sig .tc .vmem S1024x1024 .f32) (h0 : M0.IsWhole) (M1 : Memref sig .tc .vmem S2048x1024 .f32) (h1 : M1.IsWhole)
    (X : S1024x1024.Idx → F .f32) (Y : S2048x1024.Idx → F .f32) (E : Set ℕ) (Q : PUnit → sProp 𝕄) :
    iprop(owns (c : Thread nD τ) M0 fullShare X ∗ owns (c : Thread nD τ) M1 fullShare Y
        ∗ (iprop(owns (c : Thread nD τ) M0 fullShare X ∗ owns (c : Thread nD τ) M1 fullShare (cayley X)) -∗ Q ⟨⟩))
      ⊢ wp frame (wpE (defs₀ (F := F)) Variants.none c none) E (cc1__cayley_w_body M0 h0 M1 h1) Q := by
  rw [cc1__cayley_w_body_eq_skeleton]
  unfold cc1__cayley_w_body_skel
  rw [owns_pt c M0 h0, owns_pt c M1 h1, owns_pt c M1 h1]
  iintro ⟨⟨%f0, %hf0, H0⟩, ⟨%f1, -, H1⟩, Hk⟩
  subst hf0
  sl_exec!
  sl_step
  iapply Hk
  isplitl [H0]
  · iexists f0
    isplitr; · ipureintro; rfl
    iexact H0
  iexists _
  isplitr; swap
  · iexact H1
  ipureintro
  rw [View.read_writes_junk_eq_canon]
  unfold cayley_run.sl.H1_2
  rw [show View.readAt (Elt F) M0.view (Rect.unit ![0, 0] S1024x1024.size inb_S1024x1024_S1024x1024_0_0).toLoadRect f0
    = M0.view.read (Elt F) f0 from View.ld_unit_zero (S := S1024x1024) zeros₂ _ _]
  exact canon_stack _ _

/-! ## The region -/

/-- The semaphore waits a TensorCore has recorded once the SparseCore call is over: none above the call's last level. -/
abbrev seen (c : Dev nD) : Set (SemLoc sig × HIx 1) := {p | (K (F := F)).lev ((c : Thread nD τ), p.1) p.2 ≤ 8}

/-- The TensorCore owes nothing, and its recorded waits are those. -/
abbrev free (c : Dev nD) : sProp 𝕄 := iprop(∃ W, ⌜(K (F := F)).WBelow (T c) W 8⌝ ∗ owes (c : Thread nD τ) (0 : CellTallies nD τ sig (HIx 1)) W)

/-- The proof data of a pipeline a region does not run. -/
def idleDat {cfg : Cfg sig Λ₀} (c : Dev nD) : Dat τ (Elt F) (HIx 1) ℕ UU ℕ cfg c where
  A _ := fun _ => Classical.arbitrary _
  after _ _ := fun _ => Classical.arbitrary _
  Φ _ := BI.emp
  q _ := fullShare
  owed _ := 0

variable (V : (c : Dev nD) → (b : Ref sig .tc) → Buf (Elt F) ((c : Thread nD τ).loc b))

/-- The matrix as the region's fetch stages it. -/
abbrev skew (c : Dev nD) : S1024x1024.Idx → F .f32 := ((cfg1.win 0).blk t1_0).view.read (Elt F) (V c main_v7)

abbrev rest1 (c : Dev nD) : sProp 𝕄 := Pipeline.scopedRest (Ix := HIx 1) (Name := ℕ) (U := UU) (Lvl := ℕ) (Val := Elt F) spec1 c

def dat1 (c : Dev nD) : Dat τ (Elt F) (HIx 1) ℕ UU ℕ cfg1 c where
  A w := V c (Pipeline.arrRef spec1 w)
  after w _ := match w with
    | ⟨0, _⟩ => skew V c
    | ⟨1, _⟩ => cayley (skew V c)
  Φ _ := rest1 c
  q _ := fullShare
  owed _ := 0
  recorded _ := seen (F := F) c

def pdats1 (adm : (p : Fin 2) → (pcfgs (F := F) p).Adm) : (p : Fin 2) → (c : Dev nD) → Dat τ (Elt F) (HIx 1) ℕ UU ℕ (Pipeline.pin (pcfgs (F := F)) adm p) c
  | ⟨0, _⟩ => fun c => dat1 V c
  | ⟨1, _⟩ => fun c => idleDat c

theorem before1 (c : Dev nD) (d : (cfg1.win 0).block.Idx → Elt F (cfg1.win 0).elt) : (dat1 V c).before 0 t1_0 d = skew V c := by
  unfold Dat.before; rw [if_pos (by decide)]; rfl

theorem body1 (c : Dev nD) : BodyObligation (dat1 V c) (defs₀ (F := F)) 𝒱₀ none Set.univ := fun t => by
  obtain rfl := fin_N1 t
  rw [bigSep_W1, bigSep_W1]
  rw [show (dat1 V c).Φ t1_0.castSucc = rest1 c from rfl, show (dat1 V c).Φ t1_0.succ = rest1 c from rfl,
    show (dat1 V c).owesAt none t1_0.succ = (dat1 V c).owesAt none t1_0.castSucc from rfl]
  iintro ⟨HΦ, Howes, ⟨%d0, H0⟩, ⟨%d1, H1⟩⟩
  ihave H0 := (Entails.of_eq (congrArg (owns (c : Thread nD τ) ((cfg1.win 0).stage (cfg1.slots t1_0 0)) fullShare) (before1 V c d0))) $$ H0
  iapply (cayley_run c (win1_0.stage (cfg1.slots t1_0 0)) (hstage1_0 0) (win1_1.stage (cfg1.slots t1_0 1)) (hstage1_1 0) (skew V c) ((dat1 V c).before 1 t1_0 d1) Set.univ _)
  isplitl [H0]; · iexact H0
  isplitl [H1]; · iexact H1
  iintro ⟨H0, H1⟩
  isplitl [HΦ]; · iexact HΦ
  isplitl [Howes]; · iexact Howes
  isplitl [H0]; · iexact H0
  iexact H1

/-- The contents of the stacked pair's array after the region. -/
def stacked (c : Dev nD) : Buf (Elt F) ((c : Thread nD τ).loc main_v8) := (dat1 V c).arrAt 1 cfg1.N

abbrev LK : GSem nD τ sig → Finset (HIx 1) := (K (F := F)).L
abbrev lvK : GSem nD τ sig → HIx 1 → ℕ := (K (F := F)).lev

theorem waitPairs_seen (cfg : Cfg sig Λ₀) (c : Dev nD) : cfg.waitPairs (none : HIx 1) ⊆ seen (F := F) c := by
  rintro p ⟨w, s, rfl⟩
  exact Nat.zero_le 8

variable (Vp : (c : Dev nD) → (b : Ref sig .tc) → Buf (Elt F) ((c : Thread nD τ).loc b))

set_option backward.isDefEq.respectTransparency.types false in
/-- The region over the thread's state: entered with every unscoped buffer at `V`, left with them at `Vp`. -/
def reg1 (adm : (p : Fin 2) → (pcfgs (F := F) p).Adm) (hout : ∀ c, Vp c main_v8 = stacked V c)
    (hne : ∀ c (b : Ref sig .tc), b ≠ main_v8 → Vp c b = V c b) :
    Pipeline.RegionSeg (pcfgs (F := F)) adm (pdats1 V adm) none defs₀ 𝒱₀ (LK (F := F)) (lvK (F := F)) 0 where
  win := launch1.win.to₀
  block_pos := launch1.block_pos
  stage_whole := launch1.stage_whole
  K := PEmpty
  osem k := k.elim
  ho := Pipeline.OwnSemFacts.none _
  hbody c := (body1 V c).loose
  hwaits := Pipeline.hwaits_of_owed_zero _ _ _ _ LK lvK 0 fun _ _ => rfl
  pre c := iprop(unscopedBufs c (V c) ∗ free c)
  post c := iprop(unscopedBufs c (Vp c) ∗ free c)
  X _ := BI.emp
  Y _ := BI.emp
  Z c := Pipeline.unscopedRest (Ix := HIx 1) (Name := ℕ) (U := UU) (Lvl := ℕ) spec1 c (V c)
  hentry c := by
    rw [Pipeline.ownSems0_none]
    have hsplit := Pipeline.arrays_of_unscopedBufs (p := 0) (pcfgs (F := F)) adm (pdats1 V adm) launch1.win launch1.arr_whole c
      ((pdats1 V adm 0 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats1 V adm 0 c).Φ 0 = rest1 c from rfl]
    iintro ⟨-, -, Hr⟩; iexact Hr
  hout c := by
    rw [Pipeline.ownSems0_none, show (pdats1 V adm 0 c).Φ (Fin.last _) = rest1 c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats1 V adm) ((pdats1 V adm 0 c).share_full fun _ => rfl) (V c) (Vp c) ((pdats1 V adm 0 c).arrAt · cfg1.N)
      (fun w => by
        fin_cases w
        · exact ((pdats1 V adm 0 c).arrAt_in 0 rfl _).trans (hne c main_v7 (by decide)).symm
        · exact (hout c).symm)
      (fun b hb => hne c b fun h => hb (h ▸ Finset.mem_image.mpr ⟨1, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      exact fun p hp => (hW hp).elim id fun h => waitPairs_seen (F := F) cfg1 c h
    iexact HO

end Cert.Proof

end
-- ==== Proof.Rope.lean ====
/-
  The dense kernel that rotates the two operands and multiplies them by the stacked pair: its body run once, and the
  region of @main that launches it on its sixteen grid points.
-/
module

public import proofs.«01_k».proof.Proof.Cayley

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.Pipeline (Dat Cfg Window BodyObligation)

variable {F : FTy → Type} [FloatOps F]

local notation "𝕄" => MT nD τ sig (HIx 1) (Elt F) ℕ UU ℕ

/-- The block of 512 rows the kernel leaves, from its rows of positions, the frequencies, the stacked pair and the
    operand's rows. -/
def rotate (p : S512x16.Idx → F .f32) (w : S16x1024.Idx → F .f32) (m : S2048x1024.Idx → F .f32) (h : S1x512x1024.Idx → F .f32) :
    S1x512x1024.Idx → F .f32 :=
  k2_pay6 p w (fun x => m (topR.emb x)) (fun x => m (botR.emb x)) h

theorem zeros₃ : (![0, 0, 0] : Fin 3 → ℕ) = fun _ => 0 := funext (by decide)

/-- What the body computes from its loads is the rotated block of what the buffers read as. -/
theorem load_rotate (M2 : Memref sig .tc .vmem S512x16 .f32) (M3 : Memref sig .tc .vmem S16x1024 .f32)
    (M4 : Memref sig .tc .vmem S1x512x1024 .f32) (M6 : Memref sig .tc .vmem S2048x1024 .f32)
    (f2 : M2.view.ty.Contents (Elt F)) (f3 : M3.view.ty.Contents (Elt F)) (f4 : M4.view.ty.Contents (Elt F)) (f6 : M6.view.ty.Contents (Elt F)) :
    k2_pay6 (M2.view.readAt (Elt F) (Rect.unit ![0, 0] S512x16.size inb_S512x16_S512x16_0_0).toLoadRect f2)
        (M3.view.readAt (Elt F) (Rect.unit ![0, 0] S16x1024.size inb_S16x1024_S16x1024_0_0).toLoadRect f3)
        (M6.view.readAt (Elt F) topR.toLoadRect f6) (M6.view.readAt (Elt F) botR.toLoadRect f6)
        (M4.view.readAt (Elt F) (Rect.unit ![0, 0, 0] S1x512x1024.size inb_S1x512x1024_S1x512x1024_0_0_0).toLoadRect f4)
      = rotate (M2.view.read (Elt F) f2) (M3.view.read (Elt F) f3) (M6.view.read (Elt F) f6) (M4.view.read (Elt F) f4) := by
  unfold rotate
  rw [show M2.view.readAt (Elt F) (Rect.unit ![0, 0] S512x16.size inb_S512x16_S512x16_0_0).toLoadRect f2 = M2.view.read (Elt F) f2
      from View.ld_unit_zero (S := S512x16) zeros₂ _ _,
    show M3.view.readAt (Elt F) (Rect.unit ![0, 0] S16x1024.size inb_S16x1024_S16x1024_0_0).toLoadRect f3 = M3.view.read (Elt F) f3
      from View.ld_unit_zero (S := S16x1024) zeros₂ _ _,
    show M4.view.readAt (Elt F) (Rect.unit ![0, 0, 0] S1x512x1024.size inb_S1x512x1024_S1x512x1024_0_0_0).toLoadRect f4 = M4.view.read (Elt F) f4
      from View.ld_unit_zero (S := S1x512x1024) zeros₃ _ _]
  rfl

/-- The kernel's body: the five inputs left as they were, the two outputs at the rotated blocks. -/
theorem rope_run (c : Dev nD) (i : grid2.Coords) (M2 : Memref sig .tc .vmem S512x16 .f32) (h2 : M2.IsWhole) (M3 : Memref sig .tc .vmem S16x1024 .f32) (h3 : M3.IsWhole)
    (M4 : Memref sig .tc .vmem S1x512x1024 .f32) (h4 : M4.IsWhole) (M5 : Memref sig .tc .vmem S1x512x1024 .f32) (h5 : M5.IsWhole)
    (M6 : Memref sig .tc .vmem S2048x1024 .f32) (h6 : M6.IsWhole) (M7 : Memref sig .tc .vmem S1x512x1024 .f32) (h7 : M7.IsWhole)
    (M8 : Memref sig .tc .vmem S1x512x1024 .f32) (h8 : M8.IsWhole)
    (p : S512x16.Idx → F .f32) (w : S16x1024.Idx → F .f32) (q k : S1x512x1024.Idx → F .f32) (m : S2048x1024.Idx → F .f32)
    (y z : S1x512x1024.Idx → F .f32) (E : Set ℕ) (Q : PUnit → sProp 𝕄) :
    iprop(owns (c : Thread nD τ) M2 fullShare p ∗ owns (c : Thread nD τ) M3 fullShare w ∗ owns (c : Thread nD τ) M4 fullShare q
        ∗ owns (c : Thread nD τ) M5 fullShare k ∗ owns (c : Thread nD τ) M6 fullShare m ∗ owns (c : Thread nD τ) M7 fullShare y ∗ owns (c : Thread nD τ) M8 fullShare z
        ∗ (iprop(owns (c : Thread nD τ) M2 fullShare p ∗ owns (c : Thread nD τ) M3 fullShare w ∗ owns (c : Thread nD τ) M4 fullShare q
            ∗ owns (c : Thread nD τ) M5 fullShare k ∗ owns (c : Thread nD τ) M6 fullShare m
            ∗ owns (c : Thread nD τ) M7 fullShare (rotate p w m q) ∗ owns (c : Thread nD τ) M8 fullShare (rotate p w m k)) -∗ Q ⟨⟩))
      ⊢ wp frame (wpE (defs₀ (F := F)) Variants.none c none) E (cc2__rope_mm_body i M2 h2 M3 h3 M4 h4 M5 h5 M6 h6 M7 h7 M8 h8) Q := by
  rw [cc2__rope_mm_body_eq_skeleton]
  unfold cc2__rope_mm_body_skel
  rw [k2_part1_eq_skeleton]
  unfold k2_part1_skel
  rw [owns_pt c M2 h2, owns_pt c M3 h3, owns_pt c M4 h4, owns_pt c M5 h5, owns_pt c M6 h6, owns_pt c M7 h7, owns_pt c M7 h7,
    owns_pt c M8 h8, owns_pt c M8 h8]
  iintro ⟨⟨%f2, %hf2, H2⟩, ⟨%f3, %hf3, H3⟩, ⟨%f4, %hf4, H4⟩, ⟨%f5, %hf5, H5⟩, ⟨%f6, %hf6, H6⟩, ⟨%f7, -, H7⟩, ⟨%f8, -, H8⟩, Hk⟩
  subst hf2 hf3 hf4 hf5 hf6
  sl_exec!
  sl_step
  iapply Hk
  isplitl [H2]; · iexists f2; isplitr; (· ipureintro; rfl); iexact H2
  isplitl [H3]; · iexists f3; isplitr; (· ipureintro; rfl); iexact H3
  isplitl [H4]; · iexists f4; isplitr; (· ipureintro; rfl); iexact H4
  isplitl [H5]; · iexists f5; isplitr; (· ipureintro; rfl); iexact H5
  isplitl [H6]; · iexists f6; isplitr; (· ipureintro; rfl); iexact H6
  isplitl [H7]
  · iexists _
    isplitr; swap
    · iexact H7
    ipureintro
    rw [View.read_writes_junk_eq_canon]
    unfold rope_run.sl.H7_1
    rw [View.canon_unit_zero zeros₃]
    exact load_rotate M2 M3 M4 M6 f2 f3 f4 f6
  · iexists _
    isplitr; swap
    · iexact H8
    ipureintro
    rw [View.read_writes_junk_eq_canon]
    unfold rope_run.sl.H8_1
    rw [View.canon_unit_zero zeros₃]
    exact load_rotate M2 M3 M5 M6 f2 f3 f5 f6

/-! ## The region -/

variable (V : (c : Dev nD) → (b : Ref sig .tc) → Buf (Elt F) ((c : Thread nD τ).loc b))

/-- The inputs' blocks at a grid point. -/
abbrev posB (c : Dev nD) (t : Fin cfg2.N) : S512x16.Idx → F .f32 := ((cfg2.win 0).blk t).view.read (Elt F) (V c main_v47)
abbrev freqB (c : Dev nD) (t : Fin cfg2.N) : S16x1024.Idx → F .f32 := ((cfg2.win 1).blk t).view.read (Elt F) (V c main_v65)
abbrev qB (c : Dev nD) (t : Fin cfg2.N) : S1x512x1024.Idx → F .f32 := ((cfg2.win 2).blk t).view.read (Elt F) (V c main_arg0)
abbrev kB (c : Dev nD) (t : Fin cfg2.N) : S1x512x1024.Idx → F .f32 := ((cfg2.win 3).blk t).view.read (Elt F) (V c main_arg1)
abbrev matB (c : Dev nD) (t : Fin cfg2.N) : S2048x1024.Idx → F .f32 := ((cfg2.win 4).blk t).view.read (Elt F) (V c main_v8)

abbrev rest2 (c : Dev nD) : sProp 𝕄 := Pipeline.scopedRest (Ix := HIx 1) (Name := ℕ) (U := UU) (Lvl := ℕ) (Val := Elt F) spec2 c

def dat2 (c : Dev nD) : Dat τ (Elt F) (HIx 1) ℕ UU ℕ cfg2 c where
  A w := V c (Pipeline.arrRef spec2 w)
  after w t := match w with
    | ⟨0, _⟩ => posB V c t
    | ⟨1, _⟩ => freqB V c t
    | ⟨2, _⟩ => qB V c t
    | ⟨3, _⟩ => kB V c t
    | ⟨4, _⟩ => matB V c t
    | ⟨5, _⟩ => rotate (posB V c t) (freqB V c t) (matB V c t) (qB V c t)
    | ⟨6, _⟩ => rotate (posB V c t) (freqB V c t) (matB V c t) (kB V c t)
  Φ _ := rest2 c
  q _ := fullShare
  owed _ := 0
  recorded _ := seen (F := F) c

def pdats2 (adm : (p : Fin 2) → (pcfgs (F := F) p).Adm) : (p : Fin 2) → (c : Dev nD) → Dat τ (Elt F) (HIx 1) ℕ UU ℕ (Pipeline.pin (pcfgs (F := F)) adm p) c
  | ⟨0, _⟩ => fun c => idleDat c
  | ⟨1, _⟩ => fun c => dat2 V c

theorem before2_0 (c : Dev nD) (t : Fin cfg2.N) (d : (cfg2.win 0).block.Idx → Elt F (cfg2.win 0).elt) :
    (dat2 V c).before 0 t d = posB V c t :=
  (Dat.before_in_eq_fetched (dat2 V c) 0 rfl (fun _ => rfl) (fun _ _ _ => rfl) (fun _ => rfl) t d).trans rfl

theorem before2_1 (c : Dev nD) (t : Fin cfg2.N) (d : (cfg2.win 1).block.Idx → Elt F (cfg2.win 1).elt) :
    (dat2 V c).before 1 t d = freqB V c t :=
  (Dat.before_in_eq_fetched (dat2 V c) 1 rfl (fun _ => rfl) (fun _ _ _ => rfl) (fun _ => rfl) t d).trans rfl

theorem before2_2 (c : Dev nD) (t : Fin cfg2.N) (d : (cfg2.win 2).block.Idx → Elt F (cfg2.win 2).elt) :
    (dat2 V c).before 2 t d = qB V c t :=
  (Dat.before_in_eq_fetched (dat2 V c) 2 rfl (fun _ => rfl) (fun _ _ _ => rfl) (fun _ => rfl) t d).trans rfl

theorem before2_3 (c : Dev nD) (t : Fin cfg2.N) (d : (cfg2.win 3).block.Idx → Elt F (cfg2.win 3).elt) :
    (dat2 V c).before 3 t d = kB V c t :=
  (Dat.before_in_eq_fetched (dat2 V c) 3 rfl (fun _ => rfl) (fun _ _ _ => rfl) (fun _ => rfl) t d).trans rfl

theorem before2_4 (c : Dev nD) (t : Fin cfg2.N) (d : (cfg2.win 4).block.Idx → Elt F (cfg2.win 4).elt) :
    (dat2 V c).before 4 t d = matB V c t :=
  (Dat.before_in_eq_fetched (dat2 V c) 4 rfl (fun _ => rfl) (fun _ _ _ => rfl) (fun _ => rfl) t d).trans rfl

theorem body2 (c : Dev nD) : BodyObligation (dat2 V c) (defs₀ (F := F)) 𝒱₀ none Set.univ := fun t => by
  rw [bigSep_W2, bigSep_W2]
  rw [show (dat2 V c).Φ t.castSucc = rest2 c from rfl, show (dat2 V c).Φ t.succ = rest2 c from rfl,
    show (dat2 V c).owesAt none t.succ = (dat2 V c).owesAt none t.castSucc from rfl]
  iintro ⟨HΦ, Howes, ⟨%d0, H0⟩, ⟨%d1, H1⟩, ⟨%d2, H2⟩, ⟨%d3, H3⟩, ⟨%d4, H4⟩, ⟨%d5, H5⟩, ⟨%d6, H6⟩⟩
  ihave H0 := (Entails.of_eq (congrArg (owns (c : Thread nD τ) ((cfg2.win 0).stage (cfg2.slots t 0)) fullShare) (before2_0 V c t d0))) $$ H0
  ihave H1 := (Entails.of_eq (congrArg (owns (c : Thread nD τ) ((cfg2.win 1).stage (cfg2.slots t 1)) fullShare) (before2_1 V c t d1))) $$ H1
  ihave H2 := (Entails.of_eq (congrArg (owns (c : Thread nD τ) ((cfg2.win 2).stage (cfg2.slots t 2)) fullShare) (before2_2 V c t d2))) $$ H2
  ihave H3 := (Entails.of_eq (congrArg (owns (c : Thread nD τ) ((cfg2.win 3).stage (cfg2.slots t 3)) fullShare) (before2_3 V c t d3))) $$ H3
  ihave H4 := (Entails.of_eq (congrArg (owns (c : Thread nD τ) ((cfg2.win 4).stage (cfg2.slots t 4)) fullShare) (before2_4 V c t d4))) $$ H4
  iapply (rope_run c (grid2.coords t) (win2_0.stage (cfg2.slots t 0)) (hstage2_0 ((cfg2.slots t 0).cast nbuf2_0)) (win2_1.stage (cfg2.slots t 1)) (hstage2_1 ((cfg2.slots t 1).cast nbuf2_1)) (win2_2.stage (cfg2.slots t 2)) (hstage2_2 ((cfg2.slots t 2).cast nbuf2_2)) (win2_3.stage (cfg2.slots t 3)) (hstage2_3 ((cfg2.slots t 3).cast nbuf2_3)) (win2_4.stage (cfg2.slots t 4)) (hstage2_4 ((cfg2.slots t 4).cast nbuf2_4)) (win2_5.stage (cfg2.slots t 5)) (hstage2_5 ((cfg2.slots t 5).cast nbuf2_5)) (win2_6.stage (cfg2.slots t 6)) (hstage2_6 ((cfg2.slots t 6).cast nbuf2_6))
    (posB V c t) (freqB V c t) (qB V c t) (kB V c t) (matB V c t) ((dat2 V c).before 5 t d5) ((dat2 V c).before 6 t d6) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Howes]; · iexact Howes
  isplitl [H0]; · iexact H0
  isplitl [H1]; · iexact H1
  isplitl [H2]; · iexact H2
  isplitl [H3]; · iexact H3
  isplitl [H4]; · iexact H4
  isplitl [H5]; · iexact H5
  iexact H6

/-- The contents of the two results after the region. -/
def outQ (c : Dev nD) : Buf (Elt F) ((c : Thread nD τ).loc main_v66_0) := (dat2 V c).arrAt 5 cfg2.N
def outK (c : Dev nD) : Buf (Elt F) ((c : Thread nD τ).loc main_v66_1) := (dat2 V c).arrAt 6 cfg2.N

variable (Vp : (c : Dev nD) → (b : Ref sig .tc) → Buf (Elt F) ((c : Thread nD τ).loc b))

set_option backward.isDefEq.respectTransparency.types false in
/-- The region over the thread's state: entered with every unscoped buffer at `V`, left with them at `Vp`. -/
def reg2 (adm : (p : Fin 2) → (pcfgs (F := F) p).Adm) (hq : ∀ c, Vp c main_v66_0 = outQ V c) (hk : ∀ c, Vp c main_v66_1 = outK V c)
    (hne : ∀ c (b : Ref sig .tc), b ≠ main_v66_0 → b ≠ main_v66_1 → Vp c b = V c b) :
    Pipeline.RegionSeg (pcfgs (F := F)) adm (pdats2 V adm) none defs₀ 𝒱₀ (LK (F := F)) (lvK (F := F)) 1 where
  win := launch2.win.to₀
  block_pos := launch2.block_pos
  stage_whole := launch2.stage_whole
  K := PEmpty
  osem k := k.elim
  ho := Pipeline.OwnSemFacts.none _
  hbody c := (body2 V c).loose
  hwaits := Pipeline.hwaits_of_owed_zero _ _ _ _ LK lvK 1 fun _ _ => rfl
  pre c := iprop(unscopedBufs c (V c) ∗ free c)
  post c := iprop(unscopedBufs c (Vp c) ∗ free c)
  X _ := BI.emp
  Y _ := BI.emp
  Z c := Pipeline.unscopedRest (Ix := HIx 1) (Name := ℕ) (U := UU) (Lvl := ℕ) spec2 c (V c)
  hentry c := by
    rw [Pipeline.ownSems0_none]
    have hsplit := Pipeline.arrays_of_unscopedBufs (p := 1) (pcfgs (F := F)) adm (pdats2 V adm) launch2.win launch2.arr_whole c
      ((pdats2 V adm 1 c).share_full fun _ => rfl) (V c) fun _ => rfl
    iintro ⟨⟨Hub, %W, %hW, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      iexists W; isplitr; · ipureintro; exact fun p hp => Or.inl (hW p hp)
      iexact HO
    isplitr; · iempintro
    iexact Hrest
  hin c := by
    rw [show (pdats2 V adm 1 c).Φ 0 = rest2 c from rfl]
    iintro ⟨-, -, Hr⟩; iexact Hr
  hout c := by
    rw [Pipeline.ownSems0_none, show (pdats2 V adm 1 c).Φ (Fin.last _) = rest2 c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats2 V adm) ((pdats2 V adm 1 c).share_full fun _ => rfl) (V c) (Vp c) ((pdats2 V adm 1 c).arrAt · cfg2.N)
      (fun w => by
        fin_cases w
        · exact ((pdats2 V adm 1 c).arrAt_in 0 rfl _).trans (hne c main_v47 (by decide) (by decide)).symm
        · exact ((pdats2 V adm 1 c).arrAt_in 1 rfl _).trans (hne c main_v65 (by decide) (by decide)).symm
        · exact ((pdats2 V adm 1 c).arrAt_in 2 rfl _).trans (hne c main_arg0 (by decide) (by decide)).symm
        · exact ((pdats2 V adm 1 c).arrAt_in 3 rfl _).trans (hne c main_arg1 (by decide) (by decide)).symm
        · exact ((pdats2 V adm 1 c).arrAt_in 4 rfl _).trans (hne c main_v8 (by decide) (by decide)).symm
        · exact (hq c).symm
        · exact (hk c).symm)
      (fun b hb => hne c b (fun h => hb (h ▸ Finset.mem_image.mpr ⟨5, Finset.mem_univ _, rfl⟩)) fun h => hb (h ▸ Finset.mem_image.mpr ⟨6, Finset.mem_univ _, rfl⟩))
    iintro ⟨Ha, HO, -, Hrest⟩
    imodintro
    isplitl [Ha Hrest]
    · iapply hjoin; isplitl [Ha] <;> iassumption
    unfold Pipeline.Dat.owesAt Pipeline.owesWithin
    icases HO with ⟨%W, %hW, HO⟩; iexists W
    isplitr
    · ipureintro
      exact fun p hp => (hW hp).elim id fun h => waitPairs_seen (F := F) cfg2 c h
    iexact HO

end Cert.Proof

end
-- ==== Proof.Host.lean ====
/-
  The host operations around the kernels: `main`'s lines as lists, and what the buffers the kernels read hold after them.
-/
module

public import proofs.«01_k».proof.Proof.Rope
public import Idealize.ShloMosaic.Lib.StableHlo.RunRead

@[expose] public section

noncomputable section

namespace Cert.Proof

open Cert.KernelIdeal Cert.KernelIdeal.Gen

open Idealize.ShloMosaic Idealize.ShloMosaic.StableHlo
open Idealize.SL.Sem

variable {F : FTy → Type} [FloatOps F]

/-- A list of entries followed by eleven more. -/
def tail11 {α : Type} (a : S5237.Idx → α) (b : S11.Idx → α) : S5248.Idx → α :=
  concatenate S5248 0 [⟨S5237, a⟩, ⟨S11, b⟩] concatenates_S5237_S11_S5248_d0

/-- Sixteen columns side by side. -/
def beside {α : Type} (x0 x1 x2 x3 x4 x5 x6 x7 x8 x9 x10 x11 x12 x13 x14 x15 : S4096x1.Idx → α) : S4096x16.Idx → α :=
  concatenate S4096x16 1 [⟨S4096x1, x0⟩, ⟨S4096x1, x1⟩, ⟨S4096x1, x2⟩, ⟨S4096x1, x3⟩, ⟨S4096x1, x4⟩, ⟨S4096x1, x5⟩, ⟨S4096x1, x6⟩, ⟨S4096x1, x7⟩, ⟨S4096x1, x8⟩, ⟨S4096x1, x9⟩, ⟨S4096x1, x10⟩, ⟨S4096x1, x11⟩, ⟨S4096x1, x12⟩, ⟨S4096x1, x13⟩, ⟨S4096x1, x14⟩, ⟨S4096x1, x15⟩] concatenates_S4096x1_S4096x1_S4096x1_S4096x1_S4096x1_S4096x1_S4096x1_S4096x1_S4096x1_S4096x1_S4096x1_S4096x1_S4096x1_S4096x1_S4096x1_S4096x1_S4096x16_d1

/-- Sixteen rows one below the other. -/
def below {α : Type} (x0 x1 x2 x3 x4 x5 x6 x7 x8 x9 x10 x11 x12 x13 x14 x15 : S1x1024.Idx → α) : S16x1024.Idx → α :=
  concatenate S16x1024 0 [⟨S1x1024, x0⟩, ⟨S1x1024, x1⟩, ⟨S1x1024, x2⟩, ⟨S1x1024, x3⟩, ⟨S1x1024, x4⟩, ⟨S1x1024, x5⟩, ⟨S1x1024, x6⟩, ⟨S1x1024, x7⟩, ⟨S1x1024, x8⟩, ⟨S1x1024, x9⟩, ⟨S1x1024, x10⟩, ⟨S1x1024, x11⟩, ⟨S1x1024, x12⟩, ⟨S1x1024, x13⟩, ⟨S1x1024, x14⟩, ⟨S1x1024, x15⟩] concatenates_S1x1024_S1x1024_S1x1024_S1x1024_S1x1024_S1x1024_S1x1024_S1x1024_S1x1024_S1x1024_S1x1024_S1x1024_S1x1024_S1x1024_S1x1024_S1x1024_S16x1024_d0

/-- Up to the SparseCore call: the three lists padded. -/
abbrev ops0 : List (HloOp τ sig (Elt F)) :=
  [ nullary main_c (constantI S_ 32 0#32),
    unary main_c main_v0 (broadcastInDim S11 ![] bcast_S_S11 : (⟨S_, .i32⟩ : BufTy).Contents (Elt F) → (⟨S11, .i32⟩ : BufTy).Contents (Elt F)),
    binary main_arg5 main_v0 main_v1 (tail11 : (⟨S5237, .i32⟩ : BufTy).Contents (Elt F) → (⟨S11, .i32⟩ : BufTy).Contents (Elt F) → (⟨S5248, .i32⟩ : BufTy).Contents (Elt F)),
    nullary main_c_0 (constantI S_ 32 0#32),
    unary main_c_0 main_v2 (broadcastInDim S11 ![] bcast_S_S11 : (⟨S_, .i32⟩ : BufTy).Contents (Elt F) → (⟨S11, .i32⟩ : BufTy).Contents (Elt F)),
    binary main_arg6 main_v2 main_v3 (tail11 : (⟨S5237, .i32⟩ : BufTy).Contents (Elt F) → (⟨S11, .i32⟩ : BufTy).Contents (Elt F) → (⟨S5248, .i32⟩ : BufTy).Contents (Elt F)),
    nullary main_cst (constant S_ .f32 0x00000000#32),
    unary main_cst main_v4 (broadcastInDim S11 ![] bcast_S_S11 : (⟨S_, .f32⟩ : BufTy).Contents (Elt F) → (⟨S11, .f32⟩ : BufTy).Contents (Elt F)),
    binary main_arg3 main_v4 main_v5 (tail11 : (⟨S5237, .f32⟩ : BufTy).Contents (Elt F) → (⟨S11, .f32⟩ : BufTy).Contents (Elt F) → (⟨S5248, .f32⟩ : BufTy).Contents (Elt F)) ]

/-- Between the call and the first pipelined kernel. -/
abbrev ops1 : List (HloOp τ sig (Elt F)) :=
  [ reshape main_v6 main_v7 (rfl : (.f32 : EltTy) = .f32) shapeCasts_S1048576_S1024x1024 ]

/-- The signed frequencies. -/
abbrev ops2 : List (HloOp τ sig (Elt F)) :=
  [ nullary main_v9 (iotaInDim S1024 32 0),
    nullary main_c_1 (constantI S_ 32 2#32),
    unary main_c_1 main_call0_v0 (id : (⟨S_, .i32⟩ : BufTy).Contents (Elt F) → (⟨S_, .i32⟩ : BufTy).Contents (Elt F)),
    nullary main_call0_c (constantI S_ 32 0#32),
    binary main_call0_v0 main_call0_c main_call0_v1 (cmpi .eq : (⟨S_, .i32⟩ : BufTy).Contents (Elt F) → (⟨S_, .i32⟩ : BufTy).Contents (Elt F) → (⟨S_, .i1⟩ : BufTy).Contents (Elt F)),
    nullary main_call0_c_0 (constantI S_ 32 1#32),
    ternary main_call0_v1 main_call0_c_0 main_call0_v0 main_call0_v2 (select : (⟨S_, .i1⟩ : BufTy).Contents (Elt F) → (⟨S_, .i32⟩ : BufTy).Contents (Elt F) → (⟨S_, .i32⟩ : BufTy).Contents (Elt F) → (⟨S_, .i32⟩ : BufTy).Contents (Elt F)),
    unary main_call0_v2 main_call0_v3 (broadcastInDim S1024 ![] bcast_S_S1024 : (⟨S_, .i32⟩ : BufTy).Contents (Elt F) → (⟨S1024, .i32⟩ : BufTy).Contents (Elt F)),
    binary main_v9 main_call0_v3 main_call0_v4 (Host.remsi : (⟨S1024, .i32⟩ : BufTy).Contents (Elt F) → (⟨S1024, .i32⟩ : BufTy).Contents (Elt F) → (⟨S1024, .i32⟩ : BufTy).Contents (Elt F)),
    nullary main_call0_c_1 (constantI S_ 32 0#32),
    unary main_call0_c_1 main_call0_v5 (broadcastInDim S1024 ![] bcast_S_S1024 : (⟨S_, .i32⟩ : BufTy).Contents (Elt F) → (⟨S1024, .i32⟩ : BufTy).Contents (Elt F)),
    binary main_call0_v4 main_call0_v5 main_call0_v6 (cmpi .ne : (⟨S1024, .i32⟩ : BufTy).Contents (Elt F) → (⟨S1024, .i32⟩ : BufTy).Contents (Elt F) → (⟨S1024, .i1⟩ : BufTy).Contents (Elt F)),
    nullary main_call0_c_2 (constantI S_ 32 0#32),
    unary main_call0_c_2 main_call0_v7 (broadcastInDim S1024 ![] bcast_S_S1024 : (⟨S_, .i32⟩ : BufTy).Contents (Elt F) → (⟨S1024, .i32⟩ : BufTy).Contents (Elt F)),
    binary main_call0_v4 main_call0_v7 main_call0_v8 (cmpi .slt : (⟨S1024, .i32⟩ : BufTy).Contents (Elt F) → (⟨S1024, .i32⟩ : BufTy).Contents (Elt F) → (⟨S1024, .i1⟩ : BufTy).Contents (Elt F)),
    nullary main_call0_c_3 (constantI S_ 32 0#32),
    binary main_call0_v2 main_call0_c_3 main_call0_v9 (cmpi .slt : (⟨S_, .i32⟩ : BufTy).Contents (Elt F) → (⟨S_, .i32⟩ : BufTy).Contents (Elt F) → (⟨S_, .i1⟩ : BufTy).Contents (Elt F)),
    unary main_call0_v9 main_call0_v10 (broadcastInDim S1024 ![] bcast_S_S1024 : (⟨S_, .i1⟩ : BufTy).Contents (Elt F) → (⟨S1024, .i1⟩ : BufTy).Contents (Elt F)),
    binary main_call0_v8 main_call0_v10 main_call0_v11 (cmpi .ne : (⟨S1024, .i1⟩ : BufTy).Contents (Elt F) → (⟨S1024, .i1⟩ : BufTy).Contents (Elt F) → (⟨S1024, .i1⟩ : BufTy).Contents (Elt F)),
    binary main_call0_v11 main_call0_v6 main_call0_v12 (andi : (⟨S1024, .i1⟩ : BufTy).Contents (Elt F) → (⟨S1024, .i1⟩ : BufTy).Contents (Elt F) → (⟨S1024, .i1⟩ : BufTy).Contents (Elt F)),
    unary main_call0_v2 main_call0_v13 (broadcastInDim S1024 ![] bcast_S_S1024 : (⟨S_, .i32⟩ : BufTy).Contents (Elt F) → (⟨S1024, .i32⟩ : BufTy).Contents (Elt F)),
    binary main_call0_v4 main_call0_v13 main_call0_v14 (addi : (⟨S1024, .i32⟩ : BufTy).Contents (Elt F) → (⟨S1024, .i32⟩ : BufTy).Contents (Elt F) → (⟨S1024, .i32⟩ : BufTy).Contents (Elt F)),
    ternary main_call0_v12 main_call0_v14 main_call0_v4 main_v10 (select : (⟨S1024, .i1⟩ : BufTy).Contents (Elt F) → (⟨S1024, .i32⟩ : BufTy).Contents (Elt F) → (⟨S1024, .i32⟩ : BufTy).Contents (Elt F) → (⟨S1024, .i32⟩ : BufTy).Contents (Elt F)),
    nullary main_c_2 (constantI S_ 32 0#32),
    unary main_c_2 main_v11 (broadcastInDim S1024 ![] bcast_S_S1024 : (⟨S_, .i32⟩ : BufTy).Contents (Elt F) → (⟨S1024, .i32⟩ : BufTy).Contents (Elt F)),
    binary main_v10 main_v11 main_v12 (cmpi .eq : (⟨S1024, .i32⟩ : BufTy).Contents (Elt F) → (⟨S1024, .i32⟩ : BufTy).Contents (Elt F) → (⟨S1024, .i1⟩ : BufTy).Contents (Elt F)),
    nullary main_cst_3 (constant S_ .f32 0x3F800000#32),
    nullary main_cst_4 (constant S_ .f32 0xBF800000#32),
    unary main_cst_3 main_call1_v0 (broadcastInDim S1024 ![] bcast_S_S1024 : (⟨S_, .f32⟩ : BufTy).Contents (Elt F) → (⟨S1024, .f32⟩ : BufTy).Contents (Elt F)),
    unary main_cst_4 main_call1_v1 (broadcastInDim S1024 ![] bcast_S_S1024 : (⟨S_, .f32⟩ : BufTy).Contents (Elt F) → (⟨S1024, .f32⟩ : BufTy).Contents (Elt F)),
    ternary main_v12 main_call1_v0 main_call1_v1 main_v13 (select : (⟨S1024, .i1⟩ : BufTy).Contents (Elt F) → (⟨S1024, .f32⟩ : BufTy).Contents (Elt F) → (⟨S1024, .f32⟩ : BufTy).Contents (Elt F) → (⟨S1024, .f32⟩ : BufTy).Contents (Elt F)),
    unary main_v13 main_v14 (id : (⟨S1024, .f32⟩ : BufTy).Contents (Elt F) → (⟨S1024, .f32⟩ : BufTy).Contents (Elt F)),
    unary main_arg4 main_v15 (broadcastInDim S512x2 ![0] bcast_S512_S512x2_0 : (⟨S512, .f32⟩ : BufTy).Contents (Elt F) → (⟨S512x2, .f32⟩ : BufTy).Contents (Elt F)),
    reshape main_v15 main_v16 (rfl : (.f32 : EltTy) = .f32) shapeCasts_S512x2_S1024,
    binary main_v16 main_v14 main_v17 (mulf : (⟨S1024, .f32⟩ : BufTy).Contents (Elt F) → (⟨S1024, .f32⟩ : BufTy).Contents (Elt F) → (⟨S1024, .f32⟩ : BufTy).Contents (Elt F)) ]

/-- The split numbers and the table of positions. -/
abbrev ops3 : List (HloOp τ sig (Elt F)) :=
  [ unary main_arg2 main_v18 ((truncf .bf16 · bitsLt_bf16_f32) : (⟨S4096, .f32⟩ : BufTy).Contents (Elt F) → (⟨S4096, .bf16⟩ : BufTy).Contents (Elt F)),
    unary main_v18 main_v19 ((extf .f32 · bitsLt_bf16_f32) : (⟨S4096, .bf16⟩ : BufTy).Contents (Elt F) → (⟨S4096, .f32⟩ : BufTy).Contents (Elt F)),
    binary main_arg2 main_v19 main_v20 (subf : (⟨S4096, .f32⟩ : BufTy).Contents (Elt F) → (⟨S4096, .f32⟩ : BufTy).Contents (Elt F) → (⟨S4096, .f32⟩ : BufTy).Contents (Elt F)),
    unary main_v20 main_v21 ((truncf .bf16 · bitsLt_bf16_f32) : (⟨S4096, .f32⟩ : BufTy).Contents (Elt F) → (⟨S4096, .bf16⟩ : BufTy).Contents (Elt F)),
    unary main_v21 main_v22 ((extf .f32 · bitsLt_bf16_f32) : (⟨S4096, .bf16⟩ : BufTy).Contents (Elt F) → (⟨S4096, .f32⟩ : BufTy).Contents (Elt F)),
    binary main_v20 main_v22 main_v23 (subf : (⟨S4096, .f32⟩ : BufTy).Contents (Elt F) → (⟨S4096, .f32⟩ : BufTy).Contents (Elt F) → (⟨S4096, .f32⟩ : BufTy).Contents (Elt F)),
    unary main_v17 main_v24 ((truncf .bf16 · bitsLt_bf16_f32) : (⟨S1024, .f32⟩ : BufTy).Contents (Elt F) → (⟨S1024, .bf16⟩ : BufTy).Contents (Elt F)),
    unary main_v24 main_v25 ((extf .f32 · bitsLt_bf16_f32) : (⟨S1024, .bf16⟩ : BufTy).Contents (Elt F) → (⟨S1024, .f32⟩ : BufTy).Contents (Elt F)),
    binary main_v17 main_v25 main_v26 (subf : (⟨S1024, .f32⟩ : BufTy).Contents (Elt F) → (⟨S1024, .f32⟩ : BufTy).Contents (Elt F) → (⟨S1024, .f32⟩ : BufTy).Contents (Elt F)),
    unary main_v26 main_v27 ((truncf .bf16 · bitsLt_bf16_f32) : (⟨S1024, .f32⟩ : BufTy).Contents (Elt F) → (⟨S1024, .bf16⟩ : BufTy).Contents (Elt F)),
    unary main_v27 main_v28 ((extf .f32 · bitsLt_bf16_f32) : (⟨S1024, .bf16⟩ : BufTy).Contents (Elt F) → (⟨S1024, .f32⟩ : BufTy).Contents (Elt F)),
    binary main_v26 main_v28 main_v29 (subf : (⟨S1024, .f32⟩ : BufTy).Contents (Elt F) → (⟨S1024, .f32⟩ : BufTy).Contents (Elt F) → (⟨S1024, .f32⟩ : BufTy).Contents (Elt F)),
    nullary main_cst_5 (constant S_ .f32 0x00000000#32),
    unary main_cst_5 main_v30 (broadcastInDim S4096 ![] bcast_S_S4096 : (⟨S_, .f32⟩ : BufTy).Contents (Elt F) → (⟨S4096, .f32⟩ : BufTy).Contents (Elt F)),
    unary main_v19 main_v31 (broadcastInDim S4096x1 ![0] bcast_S4096_S4096x1_0 : (⟨S4096, .f32⟩ : BufTy).Contents (Elt F) → (⟨S4096x1, .f32⟩ : BufTy).Contents (Elt F)),
    unary main_v19 main_v32 (broadcastInDim S4096x1 ![0] bcast_S4096_S4096x1_0 : (⟨S4096, .f32⟩ : BufTy).Contents (Elt F) → (⟨S4096x1, .f32⟩ : BufTy).Contents (Elt F)),
    unary main_v19 main_v33 (broadcastInDim S4096x1 ![0] bcast_S4096_S4096x1_0 : (⟨S4096, .f32⟩ : BufTy).Contents (Elt F) → (⟨S4096x1, .f32⟩ : BufTy).Contents (Elt F)),
    unary main_v22 main_v34 (broadcastInDim S4096x1 ![0] bcast_S4096_S4096x1_0 : (⟨S4096, .f32⟩ : BufTy).Contents (Elt F) → (⟨S4096x1, .f32⟩ : BufTy).Contents (Elt F)),
    unary main_v22 main_v35 (broadcastInDim S4096x1 ![0] bcast_S4096_S4096x1_0 : (⟨S4096, .f32⟩ : BufTy).Contents (Elt F) → (⟨S4096x1, .f32⟩ : BufTy).Contents (Elt F)),
    unary main_v22 main_v36 (broadcastInDim S4096x1 ![0] bcast_S4096_S4096x1_0 : (⟨S4096, .f32⟩ : BufTy).Contents (Elt F) → (⟨S4096x1, .f32⟩ : BufTy).Contents (Elt F)),
    unary main_v23 main_v37 (broadcastInDim S4096x1 ![0] bcast_S4096_S4096x1_0 : (⟨S4096, .f32⟩ : BufTy).Contents (Elt F) → (⟨S4096x1, .f32⟩ : BufTy).Contents (Elt F)),
    unary main_v23 main_v38 (broadcastInDim S4096x1 ![0] bcast_S4096_S4096x1_0 : (⟨S4096, .f32⟩ : BufTy).Contents (Elt F) → (⟨S4096x1, .f32⟩ : BufTy).Contents (Elt F)),
    unary main_v23 main_v39 (broadcastInDim S4096x1 ![0] bcast_S4096_S4096x1_0 : (⟨S4096, .f32⟩ : BufTy).Contents (Elt F) → (⟨S4096x1, .f32⟩ : BufTy).Contents (Elt F)),
    unary main_v30 main_v40 (broadcastInDim S4096x1 ![0] bcast_S4096_S4096x1_0 : (⟨S4096, .f32⟩ : BufTy).Contents (Elt F) → (⟨S4096x1, .f32⟩ : BufTy).Contents (Elt F)),
    unary main_v30 main_v41 (broadcastInDim S4096x1 ![0] bcast_S4096_S4096x1_0 : (⟨S4096, .f32⟩ : BufTy).Contents (Elt F) → (⟨S4096x1, .f32⟩ : BufTy).Contents (Elt F)),
    unary main_v30 main_v42 (broadcastInDim S4096x1 ![0] bcast_S4096_S4096x1_0 : (⟨S4096, .f32⟩ : BufTy).Contents (Elt F) → (⟨S4096x1, .f32⟩ : BufTy).Contents (Elt F)),
    unary main_v30 main_v43 (broadcastInDim S4096x1 ![0] bcast_S4096_S4096x1_0 : (⟨S4096, .f32⟩ : BufTy).Contents (Elt F) → (⟨S4096x1, .f32⟩ : BufTy).Contents (Elt F)),
    unary main_v30 main_v44 (broadcastInDim S4096x1 ![0] bcast_S4096_S4096x1_0 : (⟨S4096, .f32⟩ : BufTy).Contents (Elt F) → (⟨S4096x1, .f32⟩ : BufTy).Contents (Elt F)),
    unary main_v30 main_v45 (broadcastInDim S4096x1 ![0] bcast_S4096_S4096x1_0 : (⟨S4096, .f32⟩ : BufTy).Contents (Elt F) → (⟨S4096x1, .f32⟩ : BufTy).Contents (Elt F)),
    unary main_v30 main_v46 (broadcastInDim S4096x1 ![0] bcast_S4096_S4096x1_0 : (⟨S4096, .f32⟩ : BufTy).Contents (Elt F) → (⟨S4096x1, .f32⟩ : BufTy).Contents (Elt F)),
    nary ![main_v31, main_v32, main_v33, main_v34, main_v35, main_v36, main_v37, main_v38, main_v39, main_v40, main_v41, main_v42, main_v43, main_v44, main_v45, main_v46] main_v47 (fun u => beside (u 0) (u 1) (u 2) (u 3) (u 4) (u 5) (u 6) (u 7) (u 8) (u 9) (u 10) (u 11) (u 12) (u 13) (u 14) (u 15)),
    nullary main_cst_6 (constant S_ .f32 0x00000000#32),
    unary main_cst_6 main_v48 (broadcastInDim S1024 ![] bcast_S_S1024 : (⟨S_, .f32⟩ : BufTy).Contents (Elt F) → (⟨S1024, .f32⟩ : BufTy).Contents (Elt F)),
    unary main_v25 main_v49 (broadcastInDim S1x1024 ![1] bcast_S1024_S1x1024_1 : (⟨S1024, .f32⟩ : BufTy).Contents (Elt F) → (⟨S1x1024, .f32⟩ : BufTy).Contents (Elt F)),
    unary main_v28 main_v50 (broadcastInDim S1x1024 ![1] bcast_S1024_S1x1024_1 : (⟨S1024, .f32⟩ : BufTy).Contents (Elt F) → (⟨S1x1024, .f32⟩ : BufTy).Contents (Elt F)) ]

/-- The table of frequencies. -/
abbrev ops4 : List (HloOp τ sig (Elt F)) :=
  [ unary main_v29 main_v51 (broadcastInDim S1x1024 ![1] bcast_S1024_S1x1024_1 : (⟨S1024, .f32⟩ : BufTy).Contents (Elt F) → (⟨S1x1024, .f32⟩ : BufTy).Contents (Elt F)),
    unary main_v25 main_v52 (broadcastInDim S1x1024 ![1] bcast_S1024_S1x1024_1 : (⟨S1024, .f32⟩ : BufTy).Contents (Elt F) → (⟨S1x1024, .f32⟩ : BufTy).Contents (Elt F)),
    unary main_v28 main_v53 (broadcastInDim S1x1024 ![1] bcast_S1024_S1x1024_1 : (⟨S1024, .f32⟩ : BufTy).Contents (Elt F) → (⟨S1x1024, .f32⟩ : BufTy).Contents (Elt F)),
    unary main_v29 main_v54 (broadcastInDim S1x1024 ![1] bcast_S1024_S1x1024_1 : (⟨S1024, .f32⟩ : BufTy).Contents (Elt F) → (⟨S1x1024, .f32⟩ : BufTy).Contents (Elt F)),
    unary main_v25 main_v55 (broadcastInDim S1x1024 ![1] bcast_S1024_S1x1024_1 : (⟨S1024, .f32⟩ : BufTy).Contents (Elt F) → (⟨S1x1024, .f32⟩ : BufTy).Contents (Elt F)),
    unary main_v28 main_v56 (broadcastInDim S1x1024 ![1] bcast_S1024_S1x1024_1 : (⟨S1024, .f32⟩ : BufTy).Contents (Elt F) → (⟨S1x1024, .f32⟩ : BufTy).Contents (Elt F)),
    unary main_v29 main_v57 (broadcastInDim S1x1024 ![1] bcast_S1024_S1x1024_1 : (⟨S1024, .f32⟩ : BufTy).Contents (Elt F) → (⟨S1x1024, .f32⟩ : BufTy).Contents (Elt F)),
    unary main_v48 main_v58 (broadcastInDim S1x1024 ![1] bcast_S1024_S1x1024_1 : (⟨S1024, .f32⟩ : BufTy).Contents (Elt F) → (⟨S1x1024, .f32⟩ : BufTy).Contents (Elt F)),
    unary main_v48 main_v59 (broadcastInDim S1x1024 ![1] bcast_S1024_S1x1024_1 : (⟨S1024, .f32⟩ : BufTy).Contents (Elt F) → (⟨S1x1024, .f32⟩ : BufTy).Contents (Elt F)),
    unary main_v48 main_v60 (broadcastInDim S1x1024 ![1] bcast_S1024_S1x1024_1 : (⟨S1024, .f32⟩ : BufTy).Contents (Elt F) → (⟨S1x1024, .f32⟩ : BufTy).Contents (Elt F)),
    unary main_v48 main_v61 (broadcastInDim S1x1024 ![1] bcast_S1024_S1x1024_1 : (⟨S1024, .f32⟩ : BufTy).Contents (Elt F) → (⟨S1x1024, .f32⟩ : BufTy).Contents (Elt F)),
    unary main_v48 main_v62 (broadcastInDim S1x1024 ![1] bcast_S1024_S1x1024_1 : (⟨S1024, .f32⟩ : BufTy).Contents (Elt F) → (⟨S1x1024, .f32⟩ : BufTy).Contents (Elt F)),
    unary main_v48 main_v63 (broadcastInDim S1x1024 ![1] bcast_S1024_S1x1024_1 : (⟨S1024, .f32⟩ : BufTy).Contents (Elt F) → (⟨S1x1024, .f32⟩ : BufTy).Contents (Elt F)),
    unary main_v48 main_v64 (broadcastInDim S1x1024 ![1] bcast_S1024_S1x1024_1 : (⟨S1024, .f32⟩ : BufTy).Contents (Elt F) → (⟨S1x1024, .f32⟩ : BufTy).Contents (Elt F)),
    nary ![main_v49, main_v50, main_v51, main_v52, main_v53, main_v54, main_v55, main_v56, main_v57, main_v58, main_v59, main_v60, main_v61, main_v62, main_v63, main_v64] main_v65 (fun u => below (u 0) (u 1) (u 2) (u 3) (u 4) (u 5) (u 6) (u 7) (u 8) (u 9) (u 10) (u 11) (u 12) (u 13) (u 14) (u 15)) ]

/-- The programs `main`'s parts are. -/
abbrev HostProg (F : FTy → Type) [FloatOps F] : Type 1 := Prog (TpuEff nD τ sig (Elt F) (SparseCore.Sig (Pipeline.Sig Λ₀ (Fin 2) fun p => (pcfgs (F := F) p).Adm) 1) .tc) PUnit

/-- A pipelined kernel's region as `main` enters it. -/
abbrev enter (p : Fin 2) : HostProg F := Prog.lift (.customCall (SparseCore.inner (Pipeline.entry p)) ())

/-- The call of the remainder, as a line. -/
abbrev remOps : List (HloOp τ sig (Elt F)) := ops2.drop 2 |>.take 21
/-- The call of the selection, as a line. -/
abbrev selOps : List (HloOp τ sig (Elt F)) := ops2.drop 28 |>.take 3

theorem rem_eq : fn_remainder.body (F := F) (.of main_v9) (.of main_c_1) main_call0 = seqK remOps (pure ⟨⟩) := rfl
theorem sel_eq : fn_where_0.body (F := F) (.of main_v12) (.of main_cst_3) (.of main_cst_4) main_call1 = seqK selOps (pure ⟨⟩) := rfl

theorem part0_nested (d : Dev nD) :
    main_part0 (F := F) d = seqK ops0 ((sc (F := F)).run d 0 >>= fun _ => seqK ops1 (enter (F := F) 0 >>= fun _ => seqK (ops2.take 2)
      (fn_remainder.body (F := F) (.of main_v9) (.of main_c_1) main_call0 >>= fun _ => seqK (ops2.drop 23 |>.take 5)
        (fn_where_0.body (F := F) (.of main_v12) (.of main_cst_3) (.of main_cst_4) main_call1 >>= fun _ => seqK (ops2.drop 31) (seq ops3))))) := rfl

theorem ops2_split : (ops2 (F := F)) = ops2.take 2 ++ (remOps ++ ((ops2.drop 23 |>.take 5) ++ (selOps ++ ops2.drop 31))) := rfl

theorem part0_eq (d : Dev nD) : main_part0 (F := F) d
    = (seq ops0 >>= fun _ => (sc (F := F)).run d 0 >>= fun _ => seq ops1 >>= fun _ => enter (F := F) 0 >>= fun _ => seq ops2 >>= fun _ => seq ops3) := by
  have e : (seq (ops2 (F := F)) : HostProg F) = seq (ops2.take 2 ++ (remOps ++ ((ops2.drop 23 |>.take 5) ++ (selOps ++ ops2.drop 31)))) :=
    congrArg seq ops2_split
  rw [part0_nested, rem_eq, sel_eq, e, seq_append, seq_append, seq_append, seq_append]
  simp only [← seq_bind_seqK, bind_assoc, pure_bind]

theorem part1_eq (d : Dev nD) : main_part1 (F := F) d = (seq ops4 >>= fun _ => enter (F := F) 1 >>= fun _ => pure ⟨⟩) := by
  rw [seq_bind_seqK]; rfl

/-- What the line writes. -/
abbrev outs0 : List (Ref sig .tc) := [main_c, main_v0, main_v1, main_c_0, main_v2, main_v3, main_cst, main_v4, main_v5]
set_option maxRecDepth 8192 in
theorem outs0_eq : (ops0 (F := F)).map HloOp.writes = outs0.map fun r => {Proc.devRef (τ := τ) .tc r} := rfl
set_option maxRecDepth 8192 in
theorem fresh0 : ∀ op ∈ (ops0 (F := F)), op.fresh = ∅ := List.forall_iff_forall_mem.1 (forall_fresh_of_map rfl)
set_option maxRecDepth 8192 in
theorem sub0 : ∀ op ∈ (ops0 (F := F)), op.bufs ⊆ Pipeline.ucRefs τ sig := fun op h =>
  Pipeline.sub_ucRefs op (List.forall_iff_forall_mem.1 (show (ops0 (F := F)).Forall fun op => op.bufs ⊆ tcRefs τ sig from
    ⟨nullary_bufs_sub .., unary_bufs_sub .., binary_bufs_sub .., nullary_bufs_sub .., unary_bufs_sub .., binary_bufs_sub .., nullary_bufs_sub .., unary_bufs_sub .., binary_bufs_sub ..⟩) op h)

theorem keep0 (V : Valuation τ sig (Elt F)) {r : Ref sig .tc} (h : r ∉ outs0) :
    after ops0 V (Proc.devRef .tc r) = V (Proc.devRef .tc r) :=
  after_of_writes_sub ops0 V (forall_writes_sub_of_map outs0_eq) h

/-- What the line writes. -/
abbrev outs1 : List (Ref sig .tc) := [main_v7]
set_option maxRecDepth 8192 in
theorem outs1_eq : (ops1 (F := F)).map HloOp.writes = outs1.map fun r => {Proc.devRef (τ := τ) .tc r} := rfl
set_option maxRecDepth 8192 in
theorem fresh1 : ∀ op ∈ (ops1 (F := F)), op.fresh = ∅ := List.forall_iff_forall_mem.1 (forall_fresh_of_map rfl)
set_option maxRecDepth 8192 in
theorem sub1 : ∀ op ∈ (ops1 (F := F)), op.bufs ⊆ Pipeline.ucRefs τ sig := fun op h =>
  Pipeline.sub_ucRefs op (List.forall_iff_forall_mem.1 (show (ops1 (F := F)).Forall fun op => op.bufs ⊆ tcRefs τ sig from
    reshape_bufs_sub ..) op h)

theorem keep1 (V : Valuation τ sig (Elt F)) {r : Ref sig .tc} (h : r ∉ outs1) :
    after ops1 V (Proc.devRef .tc r) = V (Proc.devRef .tc r) :=
  after_of_writes_sub ops1 V (forall_writes_sub_of_map outs1_eq) h

/-- What the line writes. -/
abbrev outs2 : List (Ref sig .tc) := [main_v9, main_c_1, main_call0_v0, main_call0_c, main_call0_v1, main_call0_c_0, main_call0_v2, main_call0_v3, main_call0_v4, main_call0_c_1, main_call0_v5, main_call0_v6, main_call0_c_2, main_call0_v7, main_call0_v8, main_call0_c_3, main_call0_v9, main_call0_v10, main_call0_v11, main_call0_v12, main_call0_v13, main_call0_v14, main_v10, main_c_2, main_v11, main_v12, main_cst_3, main_cst_4, main_call1_v0, main_call1_v1, main_v13, main_v14, main_v15, main_v16, main_v17]
set_option maxRecDepth 8192 in
theorem outs2_eq : (ops2 (F := F)).map HloOp.writes = outs2.map fun r => {Proc.devRef (τ := τ) .tc r} := rfl
set_option maxRecDepth 8192 in
theorem fresh2 : ∀ op ∈ (ops2 (F := F)), op.fresh = ∅ := List.forall_iff_forall_mem.1 (forall_fresh_of_map rfl)
set_option maxRecDepth 8192 in
theorem sub2 : ∀ op ∈ (ops2 (F := F)), op.bufs ⊆ Pipeline.ucRefs τ sig := fun op h =>
  Pipeline.sub_ucRefs op (List.forall_iff_forall_mem.1 (show (ops2 (F := F)).Forall fun op => op.bufs ⊆ tcRefs τ sig from
    ⟨nullary_bufs_sub .., nullary_bufs_sub .., unary_bufs_sub .., nullary_bufs_sub .., binary_bufs_sub .., nullary_bufs_sub .., ternary_bufs_sub .., unary_bufs_sub .., binary_bufs_sub .., nullary_bufs_sub .., unary_bufs_sub .., binary_bufs_sub .., nullary_bufs_sub .., unary_bufs_sub .., binary_bufs_sub .., nullary_bufs_sub .., binary_bufs_sub .., unary_bufs_sub .., binary_bufs_sub .., binary_bufs_sub .., unary_bufs_sub .., binary_bufs_sub .., ternary_bufs_sub .., nullary_bufs_sub .., unary_bufs_sub .., binary_bufs_sub .., nullary_bufs_sub .., nullary_bufs_sub .., unary_bufs_sub .., unary_bufs_sub .., ternary_bufs_sub .., unary_bufs_sub .., unary_bufs_sub .., reshape_bufs_sub .., binary_bufs_sub ..⟩) op h)

theorem keep2 (V : Valuation τ sig (Elt F)) {r : Ref sig .tc} (h : r ∉ outs2) :
    after ops2 V (Proc.devRef .tc r) = V (Proc.devRef .tc r) :=
  after_of_writes_sub ops2 V (forall_writes_sub_of_map outs2_eq) h

/-- What the line writes. -/
abbrev outs3 : List (Ref sig .tc) := [main_v18, main_v19, main_v20, main_v21, main_v22, main_v23, main_v24, main_v25, main_v26, main_v27, main_v28, main_v29, main_cst_5, main_v30, main_v31, main_v32, main_v33, main_v34, main_v35, main_v36, main_v37, main_v38, main_v39, main_v40, main_v41, main_v42, main_v43, main_v44, main_v45, main_v46, main_v47, main_cst_6, main_v48, main_v49, main_v50]
set_option maxRecDepth 8192 in
theorem outs3_eq : (ops3 (F := F)).map HloOp.writes = outs3.map fun r => {Proc.devRef (τ := τ) .tc r} := rfl
set_option maxRecDepth 8192 in
theorem fresh3 : ∀ op ∈ (ops3 (F := F)), op.fresh = ∅ := List.forall_iff_forall_mem.1 (forall_fresh_of_map rfl)
set_option maxRecDepth 8192 in
theorem sub3 : ∀ op ∈ (ops3 (F := F)), op.bufs ⊆ Pipeline.ucRefs τ sig := fun op h =>
  Pipeline.sub_ucRefs op (List.forall_iff_forall_mem.1 (show (ops3 (F := F)).Forall fun op => op.bufs ⊆ tcRefs τ sig from
    ⟨unary_bufs_sub .., unary_bufs_sub .., binary_bufs_sub .., unary_bufs_sub .., unary_bufs_sub .., binary_bufs_sub .., unary_bufs_sub .., unary_bufs_sub .., binary_bufs_sub .., unary_bufs_sub .., unary_bufs_sub .., binary_bufs_sub .., nullary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub .., nullary_bufs_sub .., unary_bufs_sub .., unary_bufs_sub .., unary_bufs_sub ..⟩) op h)

theorem keep3 (V : Valuation τ sig (Elt F)) {r : Ref sig .tc} (h : r ∉ outs3) :
    after ops3 V (Proc.devRef .tc r) = V (Proc.devRef .tc r) :=
  after_of_writes_sub ops3 V (forall_writes_sub_of_map outs3_eq) h

/-- What the line writes. -/
abbrev outs4 : List (Ref sig .tc) := [main_v51, main_v52, main_v53, main_v54, main_v55, main_v56, main_v57, main_v58, main_v59, main_v60, main_v61, main_v62, main_v63, main_v64, main_v65]
set_option maxRecDepth 8192 in
theorem outs4_eq : (ops4 (F := F)).map HloOp.writes = outs4.map fun r => {Proc.devRef (τ := τ) .tc r} := rfl
set_option maxRecDepth 8192 in
theorem fresh4 : ∀ op ∈ (ops4 (F := F)), op.fresh = ∅ := List.forall_iff_forall_mem.1 (forall_fresh_of_map rfl)
set_option maxRecDepth 8192 in
theorem sub4 : ∀ op ∈ (ops4 (F := F)), op.bufs ⊆ Pipeline.ucRefs τ sig := fun op h =>
  Pipeline.sub_ucRefs op (List.forall_iff_forall_mem.1 (show (ops4 (F := F)).Forall fun op => op.bufs ⊆ tcRefs τ sig from
    ⟨unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., unary_bufs_sub .., nary_bufs_sub ..⟩) op h)

theorem keep4 (V : Valuation τ sig (Elt F)) {r : Ref sig .tc} (h : r ∉ outs4) :
    after ops4 V (Proc.devRef .tc r) = V (Proc.devRef .tc r) :=
  after_of_writes_sub ops4 V (forall_writes_sub_of_map outs4_eq) h

/-! ## What the lines leave -/

/-- The number every position index is reduced by: 2, guarded against a zero that it is not. -/
def modulus : S_.Idx → BitVec 32 :=
  select (cmpi .eq (constantI S_ 32 2#32) (constantI S_ 32 0#32)) (constantI S_ 32 1#32) (constantI S_ 32 2#32)

def spread {α : Type} (x : S_.Idx → α) : S1024.Idx → α := broadcastInDim S1024 ![] bcast_S_S1024 x

/-- The truncated remainder of the lane number. -/
def rem : S1024.Idx → BitVec 32 := Host.remsi (iotaInDim S1024 32 0) (spread modulus)

/-- The floored remainder. -/
def parity : S1024.Idx → BitVec 32 :=
  select (andi (cmpi .ne (cmpi .slt rem (spread (constantI S_ 32 0#32))) (spread (cmpi .slt modulus (constantI S_ 32 0#32))))
      (cmpi .ne rem (spread (constantI S_ 32 0#32))))
    (addi rem (spread modulus)) rem

/-- Plus one on even lanes, minus one on odd ones. -/
def signs : S1024.Idx → F .f32 :=
  select (cmpi .eq parity (spread (constantI S_ 32 0#32))) (spread (constant S_ .f32 0x3F800000#32)) (spread (constant S_ .f32 0xBF800000#32))

/-- The frequencies, each twice, the second time negated. -/
def freq2 (f : S512.Idx → F .f32) : S1024.Idx → F .f32 :=
  mulf (shapeCast S1024 (broadcastInDim S512x2 ![0] bcast_S512_S512x2_0 f) shapeCasts_S512x2_S1024) signs

/-- The three parts a number is split in. -/
def hi {S : Shape} (x : S.Idx → F .f32) : S.Idx → F .f32 := extf .f32 (truncf .bf16 x bitsLt_bf16_f32) bitsLt_bf16_f32
def mid {S : Shape} (x : S.Idx → F .f32) : S.Idx → F .f32 := hi (subf x (hi x))
def lo {S : Shape} (x : S.Idx → F .f32) : S.Idx → F .f32 := subf (subf x (hi x)) (mid x)

def col {α : Type} (x : S4096.Idx → α) : S4096x1.Idx → α := broadcastInDim S4096x1 ![0] bcast_S4096_S4096x1_0 x
def row {α : Type} (x : S1024.Idx → α) : S1x1024.Idx → α := broadcastInDim S1x1024 ![1] bcast_S1024_S1x1024_1 x

/-- The table of positions. -/
def posTab (p : S4096.Idx → F .f32) : S4096x16.Idx → F .f32 :=
  beside (col (hi p)) (col (hi p)) (col (hi p)) (col (mid p)) (col (mid p)) (col (mid p)) (col (lo p)) (col (lo p)) (col (lo p))
    (col (broadcastInDim S4096 ![] bcast_S_S4096 (constant S_ .f32 0x00000000#32))) (col (broadcastInDim S4096 ![] bcast_S_S4096 (constant S_ .f32 0x00000000#32))) (col (broadcastInDim S4096 ![] bcast_S_S4096 (constant S_ .f32 0x00000000#32))) (col (broadcastInDim S4096 ![] bcast_S_S4096 (constant S_ .f32 0x00000000#32))) (col (broadcastInDim S4096 ![] bcast_S_S4096 (constant S_ .f32 0x00000000#32))) (col (broadcastInDim S4096 ![] bcast_S_S4096 (constant S_ .f32 0x00000000#32))) (col (broadcastInDim S4096 ![] bcast_S_S4096 (constant S_ .f32 0x00000000#32)))

/-- The table of frequencies. -/
def freqTab (g : S1024.Idx → F .f32) : S16x1024.Idx → F .f32 :=
  below (row (hi g)) (row (mid g)) (row (lo g)) (row (hi g)) (row (mid g)) (row (lo g)) (row (hi g)) (row (mid g)) (row (lo g))
    (row (spread (constant S_ .f32 0x00000000#32))) (row (spread (constant S_ .f32 0x00000000#32))) (row (spread (constant S_ .f32 0x00000000#32))) (row (spread (constant S_ .f32 0x00000000#32))) (row (spread (constant S_ .f32 0x00000000#32))) (row (spread (constant S_ .f32 0x00000000#32))) (row (spread (constant S_ .f32 0x00000000#32)))

section Values

variable (V : Valuation τ sig (Elt F))

theorem after0_v1 : after ops0 V (Proc.devRef .tc main_v1) = tail11 (V (Proc.devRef .tc main_arg5)) (broadcastInDim S11 ![] bcast_S_S11 (constantI S_ 32 0#32)) := by
  after_reads_simp
theorem after0_v3 : after ops0 V (Proc.devRef .tc main_v3) = tail11 (V (Proc.devRef .tc main_arg6)) (broadcastInDim S11 ![] bcast_S_S11 (constantI S_ 32 0#32)) := by
  after_reads_simp
theorem after0_v5 : after ops0 V (Proc.devRef .tc main_v5) = tail11 (V (Proc.devRef .tc main_arg3)) (broadcastInDim S11 ![] bcast_S_S11 (constant S_ .f32 0x00000000#32)) := by
  after_reads_simp
theorem after1_v7 : after ops1 V (Proc.devRef .tc main_v7) = shapeCast S1024x1024 (V (Proc.devRef .tc main_v6)) shapeCasts_S1048576_S1024x1024 := by
  after_reads_simp; rfl
theorem after2_v17 : after ops2 V (Proc.devRef .tc main_v17) = freq2 (V (Proc.devRef .tc main_arg4)) := by
  after_reads_simp
  unfold freq2 signs parity rem spread modulus
  rfl
theorem after3_v47 : after ops3 V (Proc.devRef .tc main_v47) = posTab (V (Proc.devRef .tc main_arg2)) := by
  after_reads_simp
  unfold posTab col lo mid hi
  rfl
theorem after3_v25 : after ops3 V (Proc.devRef .tc main_v25) = hi (V (Proc.devRef .tc main_v17)) := by
  after_reads_simp; rfl
theorem after3_v28 : after ops3 V (Proc.devRef .tc main_v28) = mid (V (Proc.devRef .tc main_v17)) := by
  after_reads_simp; rfl
theorem after3_v29 : after ops3 V (Proc.devRef .tc main_v29) = lo (V (Proc.devRef .tc main_v17)) := by
  after_reads_simp; rfl
theorem after3_v48 : after ops3 V (Proc.devRef .tc main_v48) = spread (constant S_ .f32 0x00000000#32) := by
  after_reads_simp; rfl
theorem after3_v49 : after ops3 V (Proc.devRef .tc main_v49) = row (hi (V (Proc.devRef .tc main_v17))) := by
  after_reads_simp; rfl
theorem after3_v50 : after ops3 V (Proc.devRef .tc main_v50) = row (mid (V (Proc.devRef .tc main_v17))) := by
  after_reads_simp; rfl
theorem after4_v65 : after ops4 (after ops3 V) (Proc.devRef .tc main_v65) = freqTab (V (Proc.devRef .tc main_v17)) := by
  have key : ∀ W : Valuation τ sig (Elt F), after ops4 W (Proc.devRef .tc main_v65)
      = below (W (Proc.devRef .tc main_v49)) (W (Proc.devRef .tc main_v50)) (row (W (Proc.devRef .tc main_v29)))
          (row (W (Proc.devRef .tc main_v25))) (row (W (Proc.devRef .tc main_v28))) (row (W (Proc.devRef .tc main_v29)))
          (row (W (Proc.devRef .tc main_v25))) (row (W (Proc.devRef .tc main_v28))) (row (W (Proc.devRef .tc main_v29)))
          (row (W (Proc.devRef .tc main_v48))) (row (W (Proc.devRef .tc main_v48))) (row (W (Proc.devRef .tc main_v48))) (row (W (Proc.devRef .tc main_v48))) (row (W (Proc.devRef .tc main_v48))) (row (W (Proc.devRef .tc main_v48))) (row (W (Proc.devRef .tc main_v48))) := by
    intro W; after_reads_simp; unfold row; rfl
  rw [key, after3_v25, after3_v28, after3_v29, after3_v48, after3_v49, after3_v50]
  rfl

end Values

end Cert.Proof

end
-- ==== Proof.Launch.lean ====
/-
  The whole program: what every buffer holds at each stage of `main`, and the run from any memory whose rows and columns
  are below 1024.
-/
module

public import proofs.«01_k».proof.Proof.Call
public import proofs.«01_k».proof.Proof.Host

@[expose] public section

noncomputable section

namespace Cert.Proof

open Cert.KernelIdeal Cert.KernelIdeal.Gen

open Idealize.ShloMosaic Idealize.ShloMosaic.TcCoe
open Idealize.ShloMosaic.SparseCore (S V T)
open Idealize.ShloMosaic.SparseCore.Cfg (HIx Pay)
open Idealize.ShloMosaic.StableHlo (after held seq)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat ucRefs unscopedBufs_held)

variable {F : FTy → Type} [FloatOps F]

local notation "𝕄" => MT nD τ sig (HIx 1) (Elt F) ℕ UU ℕ

/-- A TensorCore reference as the device's buffer. -/
abbrev at' (r : Ref sig .tc) : DevRef τ sig := Proc.devRef .tc r

variable (m : (ℓ : Loc nD τ sig) → Buf (Elt F) ℓ) (ρ : Dev nD → PrngReg)

/-! ## The contents at each stage -/

def W0 (d : Dev nD) : Valuation τ sig (Elt F) := fun b => m (d, b)
def W1 (d : Dev nD) : Valuation τ sig (Elt F) := after ops0 (W0 m d)

/-- The tables the SparseCore reads. -/
def tabs : Tabs F where
  r d := W1 m d (at' main_v1)
  c d := W1 m d (at' main_v3)
  v d := W1 m d (at' main_v5)
  o d := W1 m d (at' main_v6)

def W2 (d : Dev nD) : Valuation τ sig (Elt F) := Function.update (W1 m d) (at' main_v6) (fl (tabs m) d)
def W3 (d : Dev nD) : Valuation τ sig (Elt F) := after ops1 (W2 m d)
abbrev V3 (d : Dev nD) (b : Ref sig .tc) : Buf (Elt F) ((d : Thread nD τ).loc b) := W3 m d (at' b)
def W4 (d : Dev nD) : Valuation τ sig (Elt F) := Function.update (W3 m d) (at' main_v8) (stacked (V3 m) d)
abbrev V4 (d : Dev nD) (b : Ref sig .tc) : Buf (Elt F) ((d : Thread nD τ).loc b) := W4 m d (at' b)
def W5 (d : Dev nD) : Valuation τ sig (Elt F) := after ops4 (after ops3 (after ops2 (W4 m d)))
abbrev V5 (d : Dev nD) (b : Ref sig .tc) : Buf (Elt F) ((d : Thread nD τ).loc b) := W5 m d (at' b)
def W6 (d : Dev nD) : Valuation τ sig (Elt F) :=
  Function.update (Function.update (W5 m d) (at' main_v66_0) (outQ (V5 m) d)) (at' main_v66_1) (outK (V5 m) d)
abbrev V6 (d : Dev nD) (b : Ref sig .tc) : Buf (Elt F) ((d : Thread nD τ).loc b) := W6 m d (at' b)

theorem at_ne {a b : Ref sig .tc} (h : a ≠ b) : at' a ≠ at' b := fun e => h (Proc.devRef_injective _ e)

/-- The rows and columns as given are below 1024. -/
def Rows : Prop := ∀ (d : Dev nD) (j : S5237.Idx),
  ((m ((d : Thread nD τ).loc main_arg5) : S5237.Idx → BitVec 32) j).toNat < 1024 ∧ ((m ((d : Thread nD τ).loc main_arg6) : S5237.Idx → BitVec 32) j).toNat < 1024

/-- The longer list at its first 5237 places, -/
theorem tail11_left {α : Type} (a : S5237.Idx → α) (b : S11.Idx → α) (j : S5248.Idx) (h : (j 0).val < 5237) :
    tail11 a b j = a (Shape.ofLane (d := ![5237]) ⟨(j 0).val, h⟩) :=
  concatenate_pair_apply_left 0 a b concatenates_S5237_S11_S5248_d0 j rfl _ fun k => by
    obtain rfl : k = 0 := Subsingleton.elim _ _
    rfl

/-- and at its last eleven. -/
theorem tail11_right {α : Type} (a : S5237.Idx → α) (b : S11.Idx → α) (j : S5248.Idx) (h : 5237 ≤ (j 0).val) :
    tail11 a b j = b (Shape.ofLane (d := ![11]) ⟨(j 0).val - 5237, by have : (j 0).val < 5248 := (j 0).isLt; show _ < 11; omega⟩) :=
  concatenate_pair_apply_right 0 a b concatenates_S5237_S11_S5248_d0 j rfl rfl _
    (fun k hk => absurd (Subsingleton.elim _ _) hk) (by show (j 0).val - 5237 + 5237 = (j 0).val; omega)

/-- Entries below 1024 followed by zeros are below 1024. -/
theorem tail_below (a : S5237.Idx → BitVec 32) (h : ∀ j, (a j).toNat < 1024) (j : S5248.Idx) :
    (tail11 a (broadcastInDim S11 ![] bcast_S_S11 (constantI S_ 32 0#32)) j).toNat < 1024 := by
  rcases Nat.lt_or_ge (j 0).val 5237 with hj | hj
  · rw [tail11_left _ _ j hj]; exact h _
  · rw [tail11_right _ _ j hj]; exact (by decide : (0#32).toNat < 1024)

theorem tabs_below (h : Rows m) : (tabs m).Below := fun d j => by
  refine ⟨?_, ?_⟩
  · show ((W1 m d (at' main_v1) : S5248.Idx → BitVec 32) j).toNat < 1024
    rw [show W1 m d (at' main_v1) = _ from after0_v1 _]
    exact tail_below _ (fun i => (h d i).1) j
  · show ((W1 m d (at' main_v3) : S5248.Idx → BitVec 32) j).toNat < 1024
    rw [show W1 m d (at' main_v3) = _ from after0_v3 _]
    exact tail_below _ (fun i => (h d i).2) j

/-! ## The launch element of the ghost state -/

/-- The pipelines take no tables. -/
def adm : (p : Fin 2) → (pcfgs (F := F) p).Adm := fun p => (cfgs p).toPCfg_adm

abbrev pins : Fin 2 → Pipeline.Cfg sig Λ₀ := Pipeline.pin (pcfgs (F := F)) adm

theorem pins_inj : Function.Injective (Pipeline.cellOf (nD := nD) (τ := τ) (pins (F := F))) := cellOf_inj

def u₀ : UU := (initOf (K (F := F)).hsCells (K (F := F)).hsToks,
  (initOf (Pipeline.cells (pins (F := F)) pins_inj) (Pipeline.launchToks (pins (F := F)) pins_inj), 1))

/-- A pipeline's cells and tokens on a core. -/
abbrev ghost (d : Dev nD) (p : Fin 2) : sProp 𝕄 :=
  iprop(Pipeline.cellsGhost (pins (F := F)) EP p d ∗ Pipeline.toksInit (pins (F := F)) EP p d)

abbrev G (d : Dev nD) : sProp 𝕄 := iprop(ghost d 0 ∗ ghost d 1)

omit [FloatOps F] in
theorem noShares {I : Type} (s : Finset I) : (bigSep s fun _ => iprop(emp)) = (iprop(emp) : sProp 𝕄) := bigSep_emp_const s

theorem hu₀ (t : Tabs F) : (ownU (u₀ (F := F)) : sProp 𝕄)
    ⊢ |={Set.univ}=> iprop(BI.own (EH (initOf (K (F := F)).hsCells (K (F := F)).hsToks)) ∗ (bigSep Finset.univ fun d : Dev nD => G d)
        ∗ bigSep Finset.univ fun thr : Thread nD τ => bigSep Finset.univ fun q : Fin 1 => (P t).x q thr) := by
  unfold u₀
  iintro Hu
  ihave H := (ownU_pair (initOf (K (F := F)).hsCells (K (F := F)).hsToks)
    (initOf (Pipeline.cells (pins (F := F)) pins_inj) (Pipeline.launchToks (pins (F := F)) pins_inj), (1 : Counters))) $$ Hu
  icases H with ⟨HH, HR⟩
  ihave H := (own_pair_emb _ (initOf (Pipeline.cells (pins (F := F)) pins_inj) (Pipeline.launchToks (pins (F := F)) pins_inj)) (1 : Counters)) $$ HR
  icases H with ⟨HP, -⟩
  ihave HP := (show (BI.own (((Emb.inl : Emb UP (UP × Counters)).trans embR) (initOf (Pipeline.cells (pins (F := F)) pins_inj) (Pipeline.launchToks (pins (F := F)) pins_inj))) : sProp 𝕄)
      ⊢ BI.own (EP (initOf (Pipeline.cells (pins (F := F)) pins_inj) (Pipeline.launchToks (pins (F := F)) pins_inj))) from BI.Entails.refl _) $$ HP
  imod (Pipeline.fund_ghost (pins (F := F)) EP pins_inj) $$ HP with ⟨Hc, Ht⟩
  imodintro
  isplitl [HH]; · iexact HH
  isplitl [Hc Ht]
  · iapply (show iprop((bigSep Finset.univ fun d : Dev nD => bigSep Finset.univ fun p => Pipeline.cellsGhost (pins (F := F)) EP p d)
        ∗ bigSep Finset.univ fun d : Dev nD => bigSep Finset.univ fun p => Pipeline.toksInit (pins (F := F)) EP p d) ⊢ (bigSep Finset.univ fun d : Dev nD => G d : sProp 𝕄) from by
      rw [← bigSep_sep']
      refine bigSep_mono fun d _ => ?_
      rw [← bigSep_sep', BI.bigSep_fin_two]
      exact BI.Entails.refl _)
    isplitl [Hc] <;> iassumption
  rw [show (bigSep Finset.univ fun thr : Thread nD τ => bigSep Finset.univ fun q : Fin 1 => (P t).x q thr) = bigSep Finset.univ fun _ => iprop(emp) from
    bigSep_congr fun _ _ => bigSep_univ_of_subsingleton (0 : Fin 1), noShares]
  iempintro

/-! ## The parts of `main` -/

set_option backward.isDefEq.respectTransparency.types false in
/-- A pipelined kernel's region, inside the program with its SparseCore call. -/
theorem wp_enter [∀ e, Nonempty (Elt F e)] (p : Fin 2) (pdats : (p : Fin 2) → (c : Dev nD) → Dat τ (Elt F) (HIx 1) ℕ UU ℕ (pins (F := F) p) c)
    (R : Pipeline.RegionSeg (pcfgs (F := F)) adm pdats none defs₀ 𝒱₀ (LK (F := F)) (lvK (F := F)) p) (d : Dev nD) (Q : PUnit → sProp 𝕄) :
    iprop((iprop(boundary (T d) ∗ R.post d) -∗ Q ⟨⟩) ∗ boundary (T d) ∗ R.pre d ∗ levAts (LK (F := F)) (lvK (F := F)) ∗ ghost d p)
      ⊢ wp Idealize.ShloMosaic.frame (wpE ((K (F := F)).defs (D (F := F))) 𝒱 (T d) none) Set.univ (enter (F := F) p) Q := by
  iintro ⟨Hk, Hb, Hp, Hl, Hc, Ht⟩
  iapply ((K (F := F)).wp_liftProg (D (F := F)) 𝒱 (T d) Set.univ none (Prog.lift (.customCall (Pipeline.entry p) ())) Q)
  iapply (R.wp (pcfgs (F := F)) adm pdats none pins_inj EP defs₀ 𝒱₀ (LK (F := F)) (lvK (F := F)) d none (fun _ h => nomatch h) (fun u => .ret u) Q)
  isplitl [Hk]
  · iintro H
    rw [wp_ret]; imodintro
    iapply Hk; iexact H
  isplitl [Hb]; · iexact Hb
  isplitl [Hp]; · iexact Hp
  isplitl [Hl]; · iexact Hl
  isplitl [Hc]; · iexact Hc
  iexact Ht

/-- Every unscoped buffer of the TensorCore at a valuation. -/
abbrev all (d : Dev nD) (W : Valuation τ sig (Elt F)) : sProp 𝕄 := held (T d) (ucRefs τ sig) W

theorem all_eq (d : Dev nD) (W : Valuation τ sig (Elt F)) : (unscopedBufs d (fun b => W (at' b)) : sProp 𝕄) = all d W := unscopedBufs_held d W

theorem all_launch (d : Dev nD) : (unscopedBufs d (fun b => m ((SparseCore.T d : Thread nD τ).loc b)) : sProp 𝕄) = all d (W0 m d) := unscopedBufs_held d fun b => m (d, b)

/-- The buffers the SparseCore call is handed. -/
abbrev handed : Finset (DevRef τ sig) := {at' main_v1, at' main_v3, at' main_v5, at' main_v6}

omit [FloatOps F] in
theorem handed_eq (d : Dev nD) (W : Valuation τ sig (Elt F)) : (held (T d) handed W : sProp 𝕄)
    = iprop((rLoc d ↦{fullShare} W (at' main_v1)) ∗ (cLoc d ↦{fullShare} W (at' main_v3)) ∗ (vLoc d ↦{fullShare} W (at' main_v5)) ∗ oLoc d ↦{fullShare} W (at' main_v6)) := by
  unfold held handed
  rw [SparseCore.bigSep_insert' (by decide), SparseCore.bigSep_insert' (by decide), SparseCore.bigSep_insert' (by decide), bigSep_singleton]

omit [FloatOps F] in
theorem handed_sub : handed ⊆ ucRefs τ sig := by decide

theorem W2_other (d : Dev nD) {b : DevRef τ sig} (h : b ≠ at' main_v6) : W2 m d b = W1 m d b := Function.update_of_ne h _ _
theorem W2_out (d : Dev nD) : W2 m d (at' main_v6) = fl (tabs m) d := Function.update_self _ _ _

/-- After the call the thread owes nothing. -/
theorem tcSt_free (d : Dev nD) : ∃ R : sProp 𝕄, ((K (F := F)).tcSt EH d 1 : sProp 𝕄) = iprop(free d ∗ R) := by
  unfold SparseCore.Cfg.tcSt
  rw [(K (F := F)).Otc_end d (Nat.le_refl 1)]
  exact ⟨_, rfl⟩

set_option backward.isDefEq.respectTransparency.types false in
/-- The SparseCore call, from the tables and the output whole: the output left as `fl` says. -/
theorem wp_call (κ : GSem nD τ sig → ℕ) (d : Dev nD) (Q : PUnit → sProp 𝕄) :
    iprop((K (F := F)).ctx EH (P (tabs m)) κ ∗ (K (F := F)).tcSt EH d 0 ∗ all d (W1 m d) ∗ (((K (F := F)).tcSt EH d 1 ∗ all d (W2 m d)) -∗ Q ⟨⟩))
      ⊢ wp Idealize.ShloMosaic.frame (wpE ((K (F := F)).defs (D (F := F))) 𝒱 (T d) none) Set.univ ((K (F := F)).run d 0) Q := by
  rw [show (all d (W1 m d) : sProp 𝕄) = _ from StableHlo.held_sub_split _ handed_sub _, show (all d (W2 m d) : sProp 𝕄) = _ from StableHlo.held_sub_split _ handed_sub _,
    handed_eq, handed_eq, W2_out, W2_other m d (at_ne (by decide : main_v1 ≠ main_v6)), W2_other m d (at_ne (by decide : main_v3 ≠ main_v6)),
    W2_other m d (at_ne (by decide : main_v5 ≠ main_v6)),
    StableHlo.held_congr (V := W2 m d) (V' := W1 m d) _ fun b hb => W2_other m d fun e => (Finset.mem_sdiff.1 hb).2 (by rw [e]; decide)]
  iintro ⟨#Hctx, Hst, ⟨Hh, Hr⟩, Hk⟩
  ihave Hp := (show iprop((rLoc d ↦{fullShare} W1 m d (at' main_v1)) ∗ (cLoc d ↦{fullShare} W1 m d (at' main_v3)) ∗ (vLoc d ↦{fullShare} W1 m d (at' main_v5))
      ∗ oLoc d ↦{fullShare} W1 m d (at' main_v6)) ⊢ iprop(rests (tabs m) d ∗ bigSep Finset.univ fun c : Fin 2 => bigSep Finset.univ fun i : Fin 16 => pieceAt (tabs m) d ((tabs m).o d) (c, i))
      from (whole_pieces (tabs m) d ((tabs m).o d)).1) $$ Hh
  icases Hp with ⟨Hrest, Hp⟩
  iapply ((K (F := F)).wp_run (D (F := F)) 𝒱 (EH := EH) (P := P (tabs m)) κ d 0) $$ [Hst Hp Hr Hk Hrest]
  isplitr; · iexact Hctx
  isplitl [Hst]; · iexact Hst
  isplitl [Hp]; · iexact Hp
  iintro ⟨Hst, Hdn⟩
  iapply Hk
  isplitl [Hst]; · iexact Hst
  isplitr [Hr]
  · iapply (show iprop(rests (tabs m) d ∗ bigSep Finset.univ fun c : Fin 2 => bigSep Finset.univ fun i : Fin 16 => pieceAt (tabs m) d (fl (tabs m) d) (c, i))
      ⊢ iprop((rLoc d ↦{fullShare} W1 m d (at' main_v1)) ∗ (cLoc d ↦{fullShare} W1 m d (at' main_v3)) ∗ (vLoc d ↦{fullShare} W1 m d (at' main_v5))
      ∗ oLoc d ↦{fullShare} fl (tabs m) d) from (whole_pieces (tabs m) d (fl (tabs m) d)).2)
    isplitl [Hrest]; · iexact Hrest
    iexact Hdn
  iexact Hr

/-! ## `main` -/

abbrev region1 [∀ e, Nonempty (Elt F e)] := reg1 (V3 m) (V4 m) (adm (F := F)) (fun d => Function.update_self _ _ _) (fun d b h => Function.update_of_ne (at_ne h) _ _)
abbrev region2 [∀ e, Nonempty (Elt F e)] := reg2 (V5 m) (V6 m) (adm (F := F))
  (fun d => (Function.update_of_ne (at_ne (by decide : main_v66_0 ≠ main_v66_1)) _ _).trans (Function.update_self _ _ _)) (fun d => Function.update_self _ _ _)
  (fun d b h h' => (Function.update_of_ne (at_ne h') _ _).trans (Function.update_of_ne (at_ne h) _ _))

theorem entered1 [∀ e, Nonempty (Elt F e)] (d : Dev nD) : iprop(all d (W3 m d) ∗ free d) ⊢ (region1 m).pre d := by
  rw [← all_eq]; exact BI.Entails.refl _
theorem left1 [∀ e, Nonempty (Elt F e)] (d : Dev nD) : (region1 m).post d ⊢ iprop(all d (W4 m d) ∗ free d) := by
  rw [← all_eq]; exact BI.Entails.refl _
theorem entered2 [∀ e, Nonempty (Elt F e)] (d : Dev nD) : iprop(all d (W5 m d) ∗ free d) ⊢ (region2 m).pre d := by
  rw [← all_eq]; exact BI.Entails.refl _
theorem left2 [∀ e, Nonempty (Elt F e)] (d : Dev nD) : (region2 m).post d ⊢ iprop(all d (W6 m d) ∗ free d) := by
  rw [← all_eq]; exact BI.Entails.refl _

abbrev FIN (d : Dev nD) : sProp 𝕄 := all d (W6 m d)

set_option backward.isDefEq.respectTransparency.types false in
theorem hmain [∀ e, Nonempty (Elt F e)] (κ : GSem nD τ sig → ℕ) (d : Dev nD) :
    iprop((K (F := F)).ctx EH (P (tabs m)) κ ∗ (K (F := F)).tcSt EH d 0 ∗ (K (F := F)).tcRes m ρ d ∗ G d)
      ⊢ wp Idealize.ShloMosaic.frame (wpE ((K (F := F)).defs (D (F := F))) 𝒱 (T d) none) Set.univ (main d)
          fun _ => iprop((K (F := F)).tcSt EH d 1 ∗ FIN m d ∗ (K (F := F)).tcEnd d) := by
  unfold SparseCore.Cfg.tcRes SparseCore.Cfg.tcEnd
  rw [all_launch]
  obtain ⟨R, hR⟩ := tcSt_free (F := F) d
  rw [show main (F := F) d = (main_part0 d >>= fun _ => main_part1 d) from rfl, part0_eq, part1_eq]
  simp only [bind_assoc]
  iintro ⟨#Hctx, Hst, ⟨Hb, Hh, Hts, -⟩, HG1, HG2⟩
  ihave #Hlev := (SparseCore.Cfg.ctx_levAts κ) $$ Hctx
  iapply (StableHlo.wp_seq 𝒱 none Set.univ d (ucRefs τ sig) _ ops0 sub0 fresh0 (W0 m d)) $$ [Hb Hh]
  · isplitl [Hb] <;> iassumption
  iintro ⟨Hb, Hh⟩
  rw [wp_bind]
  iapply (wp_call m κ d _)
  isplitr; · iexact Hctx
  isplitl [Hst]; · iexact Hst
  isplitl [Hh]; · iexact Hh
  iintro ⟨Hst, Hh⟩
  iapply (StableHlo.wp_seq 𝒱 none Set.univ d (ucRefs τ sig) _ ops1 sub1 fresh1 (W2 m d)) $$ [Hb Hh]
  · isplitl [Hb] <;> iassumption
  iintro ⟨Hb, Hh⟩
  ihave Hst := (Entails.of_eq hR) $$ Hst
  icases Hst with ⟨Ho, Hk⟩
  rw [wp_bind]
  iapply (wp_enter 0 _ (region1 m) d _)
  isplitr [Hb Hh Ho HG1]
  · iintro ⟨Hb, H⟩
    ihave H := (left1 m d) $$ H
    icases H with ⟨Hh, Ho⟩
    iapply (StableHlo.wp_seq 𝒱 none Set.univ d (ucRefs τ sig) _ ops2 sub2 fresh2 (W4 m d)) $$ [Hb Hh]
    · isplitl [Hb] <;> iassumption
    iintro ⟨Hb, Hh⟩
    iapply (StableHlo.wp_seq 𝒱 none Set.univ d (ucRefs τ sig) _ ops3 sub3 fresh3 (after ops2 (W4 m d))) $$ [Hb Hh]
    · isplitl [Hb] <;> iassumption
    iintro ⟨Hb, Hh⟩
    iapply (StableHlo.wp_seq 𝒱 none Set.univ d (ucRefs τ sig) _ ops4 sub4 fresh4 (after ops3 (after ops2 (W4 m d)))) $$ [Hb Hh]
    · isplitl [Hb] <;> iassumption
    iintro ⟨Hb, Hh⟩
    rw [wp_bind]
    iapply (wp_enter 1 _ (region2 m) d _)
    isplitr [Hb Hh Ho HG2]
    · iintro ⟨Hb, H⟩
      ihave H := (left2 m d) $$ H
      icases H with ⟨Hh, Ho⟩
      rw [wp_pure]
      imodintro
      isplitl [Ho Hk]
      · iapply (Entails.of_eq hR.symm)
        isplitl [Ho] <;> iassumption
      isplitl [Hh]; · iexact Hh
      isplitl [Hb] <;> iassumption
    isplitl [Hb]; · iexact Hb
    isplitl [Hh Ho]
    · iapply (entered2 m d)
      isplitl [Hh]; · iexact Hh
      iexact Ho
    isplitr; · iexact Hlev
    iexact HG2
  isplitl [Hb]; · iexact Hb
  isplitl [Hh Ho]
  · iapply (entered1 m d)
    isplitl [Hh]; · iexact Hh
    iexact Ho
  isplitr; · iexact Hlev
  iexact HG1

/-! ## The run -/

def fq (d : Dev nD) (s' : Phys nD τ sig (Elt F)) : Prop := ∀ b ∈ ucRefs τ sig, s'.mem.mem (d, b) = W6 m d b

theorem hfin (d : Dev nD) (s' : Phys nD τ sig (Elt F)) : iprop(FIN m d ∗ SI s') ⊢ (⌜fq m d s'⌝ : sProp 𝕄) := by
  unfold FIN all held
  iintro ⟨H, HSI⟩
  ihave %h := (SI_pointsTo_bufs_agree (qs := fun _ => fullShare) (ucRefs τ sig)) $$ [HSI H]
  · isplitl [HSI]; · iexact HSI
    iexact H
  ipureintro
  exact h

/-- An argument is left as given. -/
theorem W6_arg (d : Dev nD) (r : Ref sig .tc) (h0 : r ∉ outs0) (h1 : r ∉ outs1) (h2 : r ∉ outs2) (h3 : r ∉ outs3) (h4 : r ∉ outs4)
    (h6 : r ≠ main_v6) (h8 : r ≠ main_v8) (hq : r ≠ main_v66_0) (hk : r ≠ main_v66_1) : W6 m d (at' r) = m ((d : Thread nD τ).loc r) := by
  unfold W6
  rw [Function.update_of_ne (at_ne hk), Function.update_of_ne (at_ne hq)]
  unfold W5
  rw [keep4 _ h4, keep3 _ h3, keep2 _ h2]
  unfold W4
  rw [Function.update_of_ne (at_ne h8)]
  unfold W3
  rw [keep1 _ h1, W2_other m d (at_ne h6)]
  unfold W1
  rw [keep0 _ h0]
  rfl

def QC : PUnit × MemSt nD τ sig (Elt F) → Prop := fun r => (∀ c : Dev nD, ∀ b ∈ ucRefs τ sig, r.2.mem (c, b) = W6 m c b) ∧ r.2.sem = fun _ => 0

theorem run_main [∀ e, Nonempty (Elt F e)] (h : Rows m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P (tabs m)) (A := ∅) scFacts v₀
    (fun q hq => match q with | 0 => nomatch hq)
    (fun q _ => match q with | 0 => tileObl (tabs m) scFacts (tabs_below m h))
    (fun q _ => match q with | 0 => SparseCore.Cfg.VecSplit.of_plain (vecSplit (tabs m)))
    m ρ main G (FIN m) (u₀ (F := F)) (sep_elim_left.trans (hu₀ (tabs m))) (hmain m ρ) (fq m) (hfin m) (QC m) (fun _ h hz => ⟨h, hz⟩)

/-- The run as the claims read it. -/
theorem run_args [∀ e, Nonempty (Elt F e)] (h : Rows m) :
    θ_run (Cert.KernelIdeal.defs (F := F)) (Cert.KernelIdeal.threads (F := F)) ⟨m, fun _ => 0, ρ⟩ fun r =>
      (∀ c : Dev nD, r.2.mem ((c : Thread nD τ).loc main_v66_0) = outQ (V5 m) c ∧ r.2.mem ((c : Thread nD τ).loc main_v66_1) = outK (V5 m) c
        ∧ r.2.mem ((c : Thread nD τ).loc main_arg0) = m ((c : Thread nD τ).loc main_arg0) ∧ r.2.mem ((c : Thread nD τ).loc main_arg1) = m ((c : Thread nD τ).loc main_arg1)
        ∧ r.2.mem ((c : Thread nD τ).loc main_arg2) = m ((c : Thread nD τ).loc main_arg2) ∧ r.2.mem ((c : Thread nD τ).loc main_arg3) = m ((c : Thread nD τ).loc main_arg3)
        ∧ r.2.mem ((c : Thread nD τ).loc main_arg4) = m ((c : Thread nD τ).loc main_arg4) ∧ r.2.mem ((c : Thread nD τ).loc main_arg5) = m ((c : Thread nD τ).loc main_arg5)
        ∧ r.2.mem ((c : Thread nD τ).loc main_arg6) = m ((c : Thread nD τ).loc main_arg6)) ∧ r.2.sem = fun _ => 0 :=
  (θ_run Cert.KernelIdeal.defs _ _).mono (fun _ hr => ⟨fun c => by
    have e := hr.1 c
    refine ⟨(e (at' main_v66_0) (by decide)).trans ?_, (e (at' main_v66_1) (by decide)).trans ?_, ?_, ?_, ?_, ?_, ?_, ?_, ?_⟩
    · exact (Function.update_of_ne (at_ne (by decide : main_v66_0 ≠ main_v66_1)) _ _).trans (Function.update_self _ _ _)
    · exact Function.update_self _ _ _
    · exact (e (at' main_arg0) (by decide)).trans (W6_arg m c _ (by decide) (by decide) (by decide) (by decide) (by decide) (by decide) (by decide) (by decide) (by decide))
    · exact (e (at' main_arg1) (by decide)).trans (W6_arg m c _ (by decide) (by decide) (by decide) (by decide) (by decide) (by decide) (by decide) (by decide) (by decide))
    · exact (e (at' main_arg2) (by decide)).trans (W6_arg m c _ (by decide) (by decide) (by decide) (by decide) (by decide) (by decide) (by decide) (by decide) (by decide))
    · exact (e (at' main_arg3) (by decide)).trans (W6_arg m c _ (by decide) (by decide) (by decide) (by decide) (by decide) (by decide) (by decide) (by decide) (by decide))
    · exact (e (at' main_arg4) (by decide)).trans (W6_arg m c _ (by decide) (by decide) (by decide) (by decide) (by decide) (by decide) (by decide) (by decide) (by decide))
    · exact (e (at' main_arg5) (by decide)).trans (W6_arg m c _ (by decide) (by decide) (by decide) (by decide) (by decide) (by decide) (by decide) (by decide) (by decide))
    · exact (e (at' main_arg6) (by decide)).trans (W6_arg m c _ (by decide) (by decide) (by decide) (by decide) (by decide) (by decide) (by decide) (by decide) (by decide)),
    hr.2⟩) (run_main m ρ h)

end Cert.Proof

end
-- ==== Proof.Pre.lean ====
/-
  What the two preconditions say of the argument arrays.
-/
module

public import proofs.«01_k».proof.Defs
public import Idealize.ShloMosaic.Lib.ReduceAll
public import Idealize.ShloMosaic.Lib.Affine
public import Idealize.ShloMosaic.Lib.Pointwise.Tactic

@[expose] public section

noncomputable section

open Idealize.ShloMosaic

instance Cert.Pre_index_range.facts : Cert.Pre_index_range.Facts where
  bcast_S_S5237 := by decide
  reducesTo_S5237_S_d0 := by decide
  h_S_ := by decide

instance Cert.Pre_distinct_upper.facts : Cert.Pre_distinct_upper.Facts where
  bcast_S_S5237 := by decide
  reducesTo_S5237_S_d0 := by decide
  h_S_ := by decide
  bcast_S5237_S5237x1_0 := by decide
  bcast_S5237_S1x5237_1 := by decide
  bcast_S5237x1_S5237x5237_0_1 := by decide
  bcast_S1x5237_S5237x5237_0_1 := by decide
  reducesTo_S5237x5237_S_d0_1 := by decide
  bcast_S_S2x4096x1024 := by decide
  reducesTo_S2x4096x1024_S_d0_1_2 := by decide
  bcast_S_S4096 := by decide
  reducesTo_S4096_S_d0 := by decide
  bcast_S_S512 := by decide
  reducesTo_S512_S_d0 := by decide

namespace Cert.Proof.Pre

theorem andi_ofBool (p q : Bool) : IntOp.andi (BitVec.ofBool p) (BitVec.ofBool q) = BitVec.ofBool (p && q) := by
  cases p <;> cases q <;> decide
theorem ori_ofBool (p q : Bool) : IntOp.ori (BitVec.ofBool p) (BitVec.ofBool q) = BitVec.ofBool (p || q) := by
  cases p <;> cases q <;> decide
theorem zero_ori (x : BitVec 1) : IntOp.ori 0#1 x = x := by revert x; decide
theorem ofBool_eq_one (p : Bool) : (BitVec.ofBool p = 1#1) ↔ p = true := by cases p <;> decide
theorem andi_one {a b : BitVec 1} : IntOp.andi a b = 1#1 → a = 1#1 ∧ b = 1#1 := by revert a b; decide

instance : Subsingleton Cert.Pre_index_range.S_.Idx := ⟨fun a b => funext fun k => k.elim0⟩

/-- The range of the two index lists. -/
theorem range_of {F : FTy → Type} [FloatOps F] {q k : FVec F Cert.Pre_index_range.S2x4096x1024 .f32} {p : FVec F Cert.Pre_index_range.S4096 .f32}
    {s : FVec F Cert.Pre_index_range.S5237 .f32} {f : FVec F Cert.Pre_index_range.S512 .f32} {r c : IVec Cert.Pre_index_range.S5237 32}
    (h : Cert.Pre_index_range.fn (F := F) q k p s f r c = fun _ => 1#1) (j : Cert.Pre_index_range.S5237.Idx) : (r j).toNat < 1024 ∧ (c j).toNat < 1024 := by
  have e := congrFun h (fun k : Fin 0 => k.elim0)
  dsimp only [Cert.Pre_index_range.fn] at e
  have e := Host.reduce_andi_all _ _ _ _ _ e j
  simp only [andi, cmpi, broadcastInDim, constantI] at e
  simp only [IntOp.cmpi, andi_ofBool, ofBool_eq_one, Bool.and_eq_true, BitVec.sle_eq_decide, BitVec.slt_eq_decide,
    decide_eq_true_eq, BitVec.toInt_eq_toNat_cond, BitVec.toNat_ofNat, Nat.reducePow, Nat.reduceMod] at e
  omega

/-- The index lists above the diagonal, no place twice, and every number finite. -/
structure Upper (q k : Cert.Pre_distinct_upper.S2x4096x1024.Idx → EReal) (p : Cert.Pre_distinct_upper.S4096.Idx → EReal)
    (s : Cert.Pre_distinct_upper.S5237.Idx → EReal) (f : Cert.Pre_distinct_upper.S512.Idx → EReal) (r c : Cert.Pre_distinct_upper.S5237.Idx → BitVec 32) : Prop where
  lt : ∀ j, (r j).toNat < (c j).toNat
  col : ∀ j, (c j).toNat < 1024
  inj : ∀ i j, (r i).toNat = (r j).toNat → (c i).toNat = (c j).toNat → i = j
  q : ∀ i, ∃ x : ℝ, q i = x
  k : ∀ i, ∃ x : ℝ, k i = x
  p : ∀ i, ∃ x : ℝ, p i = x
  s : ∀ i, ∃ x : ℝ, s i = x
  f : ∀ i, ∃ x : ℝ, f i = x

/-- An absolute value below the largest is a real number's. -/
theorem real_of_lt {x : EReal} (h : Ideal.cmp .olt (max x (-x)) (Ideal.ofBits .f32 0x7F800000#32) = 1#1) : ∃ y : ℝ, x = y := by
  have htop : Ideal.ofBits .f32 0x7F800000#32 = ⊤ := by simp [Ideal.ofBits, Ideal.ieee]
  rw [htop] at h
  have h : max x (-x) < ⊤ := by simpa [Ideal.cmp, ofBool_eq_one] using h
  obtain ⟨h1, h2⟩ := max_lt_iff.1 h
  exact ⟨x.toReal, (EReal.coe_toReal h1.ne (fun e => by simp [e] at h2)).symm⟩

theorem upper_of {q k : FVec Ideal Cert.Pre_distinct_upper.S2x4096x1024 .f32} {p : FVec Ideal Cert.Pre_distinct_upper.S4096 .f32}
    {s : FVec Ideal Cert.Pre_distinct_upper.S5237 .f32} {f : FVec Ideal Cert.Pre_distinct_upper.S512 .f32} {r c : IVec Cert.Pre_distinct_upper.S5237 32}
    (h : Cert.Pre_distinct_upper.fn (F := Ideal) q k p s f r c = fun _ => 1#1) : Upper q k p s f r c := by
  have e := congrFun h (fun k : Fin 0 => k.elim0)
  dsimp only [Cert.Pre_distinct_upper.fn, Cert.Pre_distinct_upper.fn_part1, Cert.Pre_distinct_upper.fn_part2] at e
  obtain ⟨e, ef⟩ := andi_one e
  obtain ⟨e, es⟩ := andi_one e
  obtain ⟨e, ep⟩ := andi_one e
  obtain ⟨e, eqk⟩ := andi_one e
  obtain ⟨er, ed⟩ := andi_one e
  have hr : ∀ j, (r j).toNat < (c j).toNat ∧ (c j).toNat < 1024 := fun j => by
    have e := Host.reduce_andi_all _ _ _ _ _ er j
    simp only [andi, cmpi, broadcastInDim, constantI] at e
    simp only [IntOp.cmpi, andi_ofBool, ofBool_eq_one, Bool.and_eq_true, BitVec.sle_eq_decide, BitVec.slt_eq_decide,
      decide_eq_true_eq, BitVec.toInt_eq_toNat_cond, BitVec.toNat_ofNat, Nat.reducePow, Nat.reduceMod] at e
    omega
  refine ⟨fun j => (hr j).1, fun j => (hr j).2, fun i j h1 h2 => ?_, fun i => ?_, fun i => ?_, fun i => ?_, fun i => ?_, fun i => ?_⟩
  · have e := Host.reduce_andi_all _ _ _ _ _ ed (ix2 (i 0) (j 0))
    pointwise at e
    have hx : r i = r j := BitVec.eq_of_toNat_eq h1
    have hy : c i = c j := BitVec.eq_of_toNat_eq h2
    have hi : (i 0).val < 5237 := (i 0).isLt
    have hj : (j 0).val < 5237 := (j 0).isLt
    simp only [IntOp.cmpi, zero_ori, ofBool_eq_one, hx, hy, bne_self_eq_false, BitVec.ofBool_false, beq_iff_eq] at e
    have e := eq_of_beq ((ofBool_eq_one _).mp ((zero_ori _).symm.trans e))
    have e := congrArg BitVec.toNat e
    rw [BitVec.toNat_ofNat, BitVec.toNat_ofNat, Nat.mod_eq_of_lt (by omega), Nat.mod_eq_of_lt (by omega)] at e
    funext k
    obtain rfl : k = 0 := Subsingleton.elim _ _
    exact Fin.ext e
  · exact real_of_lt (andi_one (Host.reduce_andi_all _ _ _ _ _ eqk i)).1
  · exact real_of_lt (andi_one (Host.reduce_andi_all _ _ _ _ _ eqk i)).2
  · exact real_of_lt (Host.reduce_andi_all _ _ _ _ _ ep i)
  · exact real_of_lt (Host.reduce_andi_all _ _ _ _ _ es i)
  · exact real_of_lt (Host.reduce_andi_all _ _ _ _ _ ef i)

end Cert.Proof.Pre

end
-- ==== Proof.Twin.lean ====
/-
  The program as printed and the one printed for the ideal instance have the same text. They are two sets of
  definitions all the same; here each definition of the one is shown to be its counterpart of the other, so that a
  run of the one is a run of the other.
-/
module

public import proofs.«01_k».proof.Proof.Host
public import proofs.«01_k».proof.Proof.Gen.Kernel

@[expose] public section

set_option maxHeartbeats 40000000

noncomputable section

namespace Cert.Proof.Twin

open Idealize.ShloMosaic Idealize.SL.Sem Idealize.ShloMosaic.StableHlo Cert.Proof

variable {F : FTy → Type} [FloatOps F]

theorem tile : @Cert.Kernel.cc0__build_s_body F _ _ = @Cert.KernelIdeal.cc0__build_s_body F _ _ := rfl
theorem cayley : @Cert.Kernel.cc1__cayley_w_body F _ _ = @Cert.KernelIdeal.cc1__cayley_w_body F _ _ := rfl
theorem rope : @Cert.Kernel.cc2__rope_mm_body F _ _ = @Cert.KernelIdeal.cc2__rope_mm_body F _ _ := rfl

theorem body0 (c s x) : Cert.Kernel.defs₀ (F := F) (.scVector c s) 0 x = Cert.KernelIdeal.defs₀ (F := F) (.scVector c s) 0 x := by
  unfold Cert.Kernel.defs₀ Cert.KernelIdeal.defs₀
  dsimp only
  rw [tile]
  congr 1

theorem body1 (t s) : Cert.Kernel.defs₀ (F := F) .tc 1 (t, s) = Cert.KernelIdeal.defs₀ (F := F) .tc 1 (t, s) := by
  unfold Cert.Kernel.defs₀ Cert.KernelIdeal.defs₀
  dsimp only
  rw [cayley]
  rfl

theorem body2 (t s) : Cert.Kernel.defs₀ (F := F) .tc 2 (t, s) = Cert.KernelIdeal.defs₀ (F := F) .tc 2 (t, s) := by
  change Cert.Kernel.cc2__rope_mm_body _ _ _ _ _ _ _ _ _ _ _ _ _ _ _ = Cert.KernelIdeal.cc2__rope_mm_body _ _ _ _ _ _ _ _ _ _ _ _ _ _ _
  rw [rope]
  rfl

theorem bodies : Cert.Kernel.defs₀ (F := F) = Cert.KernelIdeal.defs₀ (F := F) := by
  funext k l a
  match k, l, a with
  | .scVector c s, ⟨0, _⟩, x => exact body0 c s x
  | .scVector c s, ⟨1, _⟩, x => rfl
  | .scVector c s, ⟨2, _⟩, x => rfl
  | .scScalar c, ⟨0, _⟩, x => rfl
  | .scScalar c, ⟨1, _⟩, x => rfl
  | .scScalar c, ⟨2, _⟩, x => rfl
  | .tc, ⟨0, _⟩, x => rfl
  | .tc, ⟨1, _⟩, (t, s) => exact body1 t s
  | .tc, ⟨2, _⟩, (t, s) => exact body2 t s

theorem defs : Cert.Kernel.defs (F := F) = Cert.KernelIdeal.defs (F := F) := by
  unfold Cert.Kernel.defs Cert.KernelIdeal.defs
  rw [← bodies]
  rfl

theorem remainder : Cert.Kernel.fn_remainder.body (F := F) (.of Cert.Kernel.main_v9) (.of Cert.Kernel.main_c_1) Cert.Kernel.main_call0
    = Cert.KernelIdeal.fn_remainder.body (F := F) (.of Cert.KernelIdeal.main_v9) (.of Cert.KernelIdeal.main_c_1) Cert.KernelIdeal.main_call0 := rfl

theorem part0 (d : Dev Cert.Kernel.nD) : Cert.Kernel.main_part0 (F := F) d = Cert.KernelIdeal.main_part0 (F := F) d := by
  rw [part0_nested]
  rfl

theorem part1 (d : Dev Cert.Kernel.nD) : Cert.Kernel.main_part1 (F := F) d = Cert.KernelIdeal.main_part1 (F := F) d := rfl

theorem main : Cert.Kernel.main (F := F) = Cert.KernelIdeal.main (F := F) := by
  funext d
  unfold Cert.Kernel.main Cert.KernelIdeal.main
  rw [part0, part1]
  rfl

theorem threads : Cert.Kernel.threads (F := F) = Cert.KernelIdeal.threads (F := F) := by
  unfold Cert.Kernel.threads Cert.KernelIdeal.threads
  rw [main]
  rfl

end Cert.Proof.Twin

end
-- ==== Proof.Frames.lean ====
/-
  The frames: each program runs, leaves its arguments as given and every counter at zero.
-/
module

public import proofs.«01_k».proof.Proof.Launch
public import proofs.«01_k».proof.Proof.Pre
public import proofs.«01_k».proof.Proof.Twin
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem

theorem rows_of_range (m : (ℓ : Loc Cert.KernelIdeal.nD Cert.KernelIdeal.τ Cert.KernelIdeal.sig) → Buf (Elt Ideal) ℓ)
    (h : Cert.Pre_KernelIdeal m) : Rows m := fun d j => Pre.range_of (h d) j

theorem upper (m : (ℓ : Loc Cert.KernelIdeal.nD Cert.KernelIdeal.τ Cert.KernelIdeal.sig) → Buf (Elt Ideal) ℓ)
    (h : Cert.Pre_KernelIdeal_distinct_upper m) (d : Dev Cert.KernelIdeal.nD) :
    Pre.Upper (m ((d.tc : Thread Cert.KernelIdeal.nD Cert.KernelIdeal.τ).loc Cert.KernelIdeal.main_arg0))
      (m ((d.tc : Thread Cert.KernelIdeal.nD Cert.KernelIdeal.τ).loc Cert.KernelIdeal.main_arg1))
      (m ((d.tc : Thread Cert.KernelIdeal.nD Cert.KernelIdeal.τ).loc Cert.KernelIdeal.main_arg2))
      (m ((d.tc : Thread Cert.KernelIdeal.nD Cert.KernelIdeal.τ).loc Cert.KernelIdeal.main_arg3))
      (m ((d.tc : Thread Cert.KernelIdeal.nD Cert.KernelIdeal.τ).loc Cert.KernelIdeal.main_arg4))
      (m ((d.tc : Thread Cert.KernelIdeal.nD Cert.KernelIdeal.τ).loc Cert.KernelIdeal.main_arg5))
      (m ((d.tc : Thread Cert.KernelIdeal.nD Cert.KernelIdeal.τ).loc Cert.KernelIdeal.main_arg6)) :=
  Pre.upper_of (h d)

theorem rows_of_upper (m : (ℓ : Loc Cert.KernelIdeal.nD Cert.KernelIdeal.τ Cert.KernelIdeal.sig) → Buf (Elt Ideal) ℓ)
    (h : Cert.Pre_KernelIdeal_distinct_upper m) : Rows m := fun d j =>
  ⟨((upper m h d).lt j).trans ((upper m h d).col j), (upper m h d).col j⟩

theorem frame_kernel : Cert.quiescent_Kernel := fun m ρ hpre => by
  rw [Twin.defs, Twin.threads]
  exact (θ_run Cert.KernelIdeal.defs _ _).mono (fun _ h => ⟨fun c => (h.1 c).2.2, h.2⟩)
    (run_args (F := Bits) m ρ fun d j => Pre.range_of (hpre d) j)

theorem frame_ideal : Cert.quiescent_KernelIdeal := fun m ρ hpre =>
  (θ_run Cert.KernelIdeal.defs _ _).mono (fun _ h => ⟨fun c => (h.1 c).2.2, h.2⟩) (run_args (F := Ideal) m ρ (rows_of_range m hpre))

theorem frame_ideal_upper : Cert.quiescent_KernelIdeal_pre_distinct_upper := fun m ρ hpre =>
  (θ_run Cert.KernelIdeal.defs _ _).mono (fun _ h => ⟨fun c => (h.1 c).2.2, h.2⟩) (run_args (F := Ideal) m ρ (rows_of_upper m hpre))

theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

end Cert.Proof

end
-- ==== Proof.Skew.lean ====
/-
  What the SparseCore kernel's slabs hold, entry by entry: place (R, C) is zero if no table entry names it, else an entry
  whose row and column are R and C, or zero less an entry whose column and row are R and C.
-/
module

public import proofs.«01_k».proof.Proof.Tile

@[expose] public section

noncomputable section

namespace Cert.Proof

open Cert.KernelIdeal Cert.KernelIdeal.Gen
open Idealize.ShloMosaic

variable {F : FTy → Type} [FloatOps F]

/-- One lane of an indexed store. -/
def put1 {α : Type} (ix : IVec S16 32) (v : S16.Idx → α) (mask : IVec S16 1) (g : S32768.Idx → α) (x : S16.Idx) : S32768.Idx → α :=
  if mask x = 1#1 then fun j => if (j 0).val = (ix x).toNat then v x else g j else g

theorem put_eq {α : Type} (g : S32768.Idx → α) (ix : IVec S16 32) (v : S16.Idx → α) (mask : IVec S16 1) :
    put g ix v mask = ((List.finRange 16).map fun k : Fin 16 => (Shape.ofLane (d := ![16]) k : S16.Idx)).foldl (put1 ix v mask) g := by
  rw [List.foldl_map]
  rfl

/-- An indexed store at one place: the place keeps what it had and no lane names it, or a lane that names it gives its value. -/
theorem put_spec {α : Type} (g : S32768.Idx → α) (ix : IVec S16 32) (v : S16.Idx → α) (mask : IVec S16 1) (J : S32768.Idx) :
    (put g ix v mask J = g J ∧ ∀ x, ¬(mask x = 1#1 ∧ (J 0).val = (ix x).toNat))
      ∨ ∃ x, mask x = 1#1 ∧ (J 0).val = (ix x).toNat ∧ put g ix v mask J = v x := by
  have key : ∀ (l : List S16.Idx) (g : S32768.Idx → α),
      (l.foldl (put1 ix v mask) g J = g J ∧ ∀ x ∈ l, ¬(mask x = 1#1 ∧ (J 0).val = (ix x).toNat))
      ∨ ∃ x, mask x = 1#1 ∧ (J 0).val = (ix x).toNat ∧ l.foldl (put1 ix v mask) g J = v x := by
    intro l
    induction l with
    | nil => intro g; exact .inl ⟨rfl, fun k hk => absurd hk (List.not_mem_nil)⟩
    | cons x l ih =>
      intro g
      rw [List.foldl_cons]
      rcases ih (put1 ix v mask g x) with ⟨h, hn⟩ | h
      · by_cases hm : mask x = 1#1 ∧ (J 0).val = (ix x).toNat
        · refine .inr ⟨_, hm.1, hm.2, h.trans ?_⟩
          rw [put1, if_pos hm.1, if_pos hm.2]
        · refine .inl ⟨h.trans ?_, fun k' hk' => ?_⟩
          · by_cases h1 : mask x = 1#1
            · rw [put1, if_pos h1, if_neg fun h2 => hm ⟨h1, h2⟩]
            · rw [put1, if_neg h1]
          · rcases List.mem_cons.1 hk' with rfl | hk'
            · exact hm
            · exact hn k' hk'
      · exact .inr h
  rw [put_eq]
  rcases key ((List.finRange 16).map fun k : Fin 16 => (Shape.ofLane (d := ![16]) k : S16.Idx)) g with ⟨h, hn⟩ | h
  · refine .inl ⟨h, fun x => hn x (List.mem_map.2 ⟨x 0, List.mem_finRange _, ?_⟩)⟩
    funext a
    obtain rfl : a = 0 := Subsingleton.elim _ _
    rfl
  · exact .inr h

/-- The first row of tile `i`'s slab. -/
def base (i : grid0.Coords) : ℕ := ((i 1).val * 2 + (i 0).val) * 32

theorem base_lt (i : grid0.Coords) : base i + 32 ≤ 1024 := by
  have h0 : (i 0).val < 2 := (i 0).isLt
  have h1 : (i 1).val < 16 := (i 1).isLt
  unfold base
  omega

/-- A word below 32 is between 0 and 31, read signed. -/
theorem mask_of_toNat_lt {x : BitVec 32} (h : x.toNat < 32) : IntOp.andi (IntOp.cmpi .sge x 0#32) (IntOp.cmpi .slt x 32#32) = 1#1 := by
  obtain ⟨n, hn, rfl⟩ : ∃ n, n < 32 ∧ x = BitVec.ofNat 32 n := ⟨x.toNat, h, by simp⟩
  clear h
  revert n
  decide

/-- A lane of the direct store is on and names place `J` exactly when its row and column are `J`'s. -/
theorem hit (i : grid0.Coords) (r c : Vec F S16 .i32) (x : S16.Idx) (hr : (r x : BitVec 32).toNat < 1024) (hc : (c x : BitVec 32).toNat < 1024) (J : S32768.Idx) :
    (k0_pay3 (F := F) i r x = 1#1 ∧ (J 0).val = (k0_pay4 (F := F) i r c x).toNat)
      ↔ ((r x : BitVec 32).toNat = base i + (J 0).val / 1024 ∧ (c x : BitVec 32).toNat = (J 0).val % 1024) := by
  have hJ : (J 0).val < 32768 := (J 0).isLt
  have hb := base_lt i
  have h2 : (k0_pay2 (F := F) i r x).toNat = ((r x : BitVec 32).toNat + 4294967296 - base i) % 4294967296 := by
    have h0 : (i 0).val < 2 := (i 0).isLt
    have h1 : (i 1).val < 16 := (i 1).isLt
    show ((r x : BitVec 32) - (BitVec.ofNat 32 (i 1).val * 2#32 + BitVec.ofNat 32 (i 0).val) * 32#32).toNat = _
    rw [BitVec.toNat_sub, BitVec.toNat_mul, BitVec.toNat_add, BitVec.toNat_mul, BitVec.toNat_ofNat, BitVec.toNat_ofNat]
    unfold base
    simp only [BitVec.toNat_ofNat]
    omega
  have h3 : k0_pay3 (F := F) i r x = 1#1 ↔ (k0_pay2 (F := F) i r x).toNat < 32 := ⟨toNat_lt_of_mask, mask_of_toNat_lt⟩
  have h4 : k0_pay3 (F := F) i r x = 1#1 → (k0_pay4 (F := F) i r c x).toNat = (k0_pay2 (F := F) i r x).toNat * 1024 + (c x : BitVec 32).toNat := by
    intro h
    show (if k0_pay3 (F := F) i r x = 1#1 then IntOp.addi (IntOp.muli (k0_pay2 (F := F) i r x) 1024#32) (c x) else 0#32 : BitVec 32).toNat = _
    rw [if_pos h, toNat_mul_add (h3.1 h) hc]
  constructor
  · rintro ⟨h, hj⟩
    have := h3.1 h
    have := h4 h
    omega
  · rintro ⟨hR, hC⟩
    have h : k0_pay3 (F := F) i r x = 1#1 := h3.2 (by omega)
    refine ⟨h, ?_⟩
    have := h4 h
    omega

/-- The same of the mirrored store, with row and column exchanged. -/
theorem hit' (i : grid0.Coords) (r c : Vec F S16 .i32) (x : S16.Idx) (hr : (r x : BitVec 32).toNat < 1024) (hc : (c x : BitVec 32).toNat < 1024) (J : S32768.Idx) :
    (k0_pay6 (F := F) i c x = 1#1 ∧ (J 0).val = (k0_pay7 (F := F) i r c x).toNat)
      ↔ ((c x : BitVec 32).toNat = base i + (J 0).val / 1024 ∧ (r x : BitVec 32).toNat = (J 0).val % 1024) :=
  hit i c r x hc hr J

/-- The table entry of trip `k`'s lane `x`. -/
def at16 (k : Fin k0_t2_loop.trips) (x : S16.Idx) : S5248.Idx := (Rect.unit (s := S5248) (k0_off2 k) S16.size (k0_off2_inb k)).toLoadRect.idx x

theorem at16_val (k : Fin k0_t2_loop.trips) (x : S16.Idx) : ((at16 k x) 0).val = 16 * k.val + (x 0).val := by
  have h : ((at16 k x) 0).val = (k0_off2 k) 0 + 1 * (x 0).val := rfl
  rw [h, k0_off2_eq k]
  show 16 * k.val + 1 * (x 0).val = _
  omega

theorem exists_at16 (k : Fin k0_t2_loop.trips) (j : S5248.Idx) (h1 : 16 * k.val ≤ (j 0).val) (h2 : (j 0).val < 16 * (k.val + 1)) : ∃ x, j = at16 k x := by
  refine ⟨Shape.ofLane (d := ![16]) ⟨(j 0).val - 16 * k.val, by show _ < 16; omega⟩, ?_⟩
  funext a
  obtain rfl : a = 0 := Subsingleton.elim _ _
  refine Fin.ext ?_
  rw [at16_val]
  show (j 0).val = 16 * k.val + ((j 0).val - 16 * k.val)
  omega

/-- What may stand at row `R`, column `C` once the entries below `n` are written. -/
def Stands (r c : S5248.Idx → BitVec 32) (v : S5248.Idx → F .f32) (n R C : ℕ) (y : F .f32) : Prop :=
  (y = Scalar.ofBits .f32 0x00000000#32 ∧ ∀ j, (j 0).val < n → ¬((r j).toNat = R ∧ (c j).toNat = C) ∧ ¬((c j).toNat = R ∧ (r j).toNat = C))
    ∨ (∃ j, (r j).toNat = R ∧ (c j).toNat = C ∧ y = v j)
    ∨ ∃ j, (c j).toNat = R ∧ (r j).toNat = C ∧ y = k0_pay8 (fun _ => v j) (Shape.ofLane (d := ![16]) ⟨0, by decide⟩)

theorem slabUpTo_stands (i : grid0.Coords) (r c : S5248.Idx → BitVec 32) (v : S5248.Idx → F .f32)
    (hr : ∀ j, (r j).toNat < 1024) (hc : ∀ j, (c j).toNat < 1024) (n : ℕ) (hn : n ≤ k0_t2_loop.trips) (J : S32768.Idx) :
    Stands r c v (16 * n) (base i + (J 0).val / 1024) ((J 0).val % 1024) (slabUpTo i r c v n J) := by
  induction n with
  | zero => exact .inl ⟨rfl, fun j hj => absurd hj (by omega)⟩
  | succ n ih =>
    have hk : n < k0_t2_loop.trips := hn
    rw [show slabUpTo i r c v (n + 1) = _ from slabUpTo_succ i r c v ⟨n, hk⟩, trip]
    rcases put_spec (put (slabUpTo i r c v n) (k0_pay4 (F := F) i (lanes r ⟨n, hk⟩) (lanes c ⟨n, hk⟩)) (lanes v ⟨n, hk⟩) (k0_pay3 (F := F) i (lanes r ⟨n, hk⟩)))
      (k0_pay7 (F := F) i (lanes r ⟨n, hk⟩) (lanes c ⟨n, hk⟩)) (k0_pay8 (lanes v ⟨n, hk⟩)) (k0_pay6 (F := F) i (lanes c ⟨n, hk⟩)) J with ⟨e, no⟩ | ⟨x, hm, hx, e⟩
    · rcases put_spec (slabUpTo i r c v n) (k0_pay4 (F := F) i (lanes r ⟨n, hk⟩) (lanes c ⟨n, hk⟩)) (lanes v ⟨n, hk⟩) (k0_pay3 (F := F) i (lanes r ⟨n, hk⟩)) J with ⟨e', no'⟩ | ⟨x, hm, hx, e'⟩
      · rw [e, e']
        rcases ih (by omega) with ⟨h0, hno⟩ | h | h
        · refine .inl ⟨h0, fun j hj => ?_⟩
          by_cases hlt : (j 0).val < 16 * n
          · exact hno j hlt
          · obtain ⟨x, rfl⟩ := exists_at16 ⟨n, hk⟩ j (by show 16 * n ≤ _; omega) hj
            exact ⟨fun q => no' x ((hit i (lanes r ⟨n, hk⟩) (lanes c ⟨n, hk⟩) x (hr _) (hc _) J).2 q),
              fun q => no x ((hit' i (lanes r ⟨n, hk⟩) (lanes c ⟨n, hk⟩) x (hr _) (hc _) J).2 q)⟩
        · exact .inr (.inl h)
        · exact .inr (.inr h)
      · rw [e, e']
        have q := (hit i (lanes r ⟨n, hk⟩) (lanes c ⟨n, hk⟩) x (hr _) (hc _) J).1 ⟨hm, hx⟩
        exact .inr (.inl ⟨at16 ⟨n, hk⟩ x, q.1, q.2, rfl⟩)
    · rw [e]
      have q := (hit' i (lanes r ⟨n, hk⟩) (lanes c ⟨n, hk⟩) x (hr _) (hc _) J).1 ⟨hm, hx⟩
      exact .inr (.inr ⟨at16 ⟨n, hk⟩ x, q.1, q.2, rfl⟩)

/-- The whole array: every place stands for its row and column. -/
theorem flat_stands (r c : S5248.Idx → BitVec 32) (v : S5248.Idx → F .f32)
    (hr : ∀ j, (r j).toNat < 1024) (hc : ∀ j, (c j).toNat < 1024) (j : S1048576.Idx) :
    Stands r c v 5248 ((j 0).val / 1024) ((j 0).val % 1024) (flat r c v j) := by
  have hj : (j 0).val < 1048576 := (j 0).isLt
  have h := slabUpTo_stands (coordsAt j) r c v hr hc k0_t2_loop.trips le_rfl (Shape.ofLane (d := ![32768]) ⟨(j 0).val % 32768, Nat.mod_lt _ (by decide)⟩)
  have ht : 16 * k0_t2_loop.trips = 5248 := by decide +kernel
  have e1 : base (coordsAt j) + (j 0).val % 32768 / 1024 = (j 0).val / 1024 := by
    show ((j 0).val / 32768 / 2 * 2 + (j 0).val / 32768 % 2) * 32 + _ = _
    omega
  have e2 : (j 0).val % 32768 % 1024 = (j 0).val % 1024 := by omega
  have h' : Stands r c v (16 * k0_t2_loop.trips) (base (coordsAt j) + (j 0).val % 32768 / 1024) ((j 0).val % 32768 % 1024) (flat r c v j) := h
  rw [ht, e1, e2] at h'
  exact h'

end Cert.Proof

end
-- ==== Proof.Algebra.lean ====
/-
  The mathematics over the reals, with no program in it: the skew matrix of a list of entries, the sum of its powers by
  repeated doubling, the fixed-point steps `z ↦ h - S z`, and arrays of extended reals that hold a real matrix.
-/
module

public import Idealize.ShloMosaic.Lib.Pointwise
public import Mathlib.Data.Matrix.Mul
public import Mathlib.Tactic.NoncommRing
public import Mathlib.Algebra.BigOperators.Fin
public import Mathlib.Analysis.SpecialFunctions.Trigonometric.Basic

@[expose] public section

noncomputable section

namespace Cert.Proof

open Idealize.ShloMosaic Matrix

/-! ## Powers of a matrix -/

section Powers

variable {n k : Type} [Fintype n] [DecidableEq n]

/-- `S + S² + … + S⁸`, doubled from `S + S²`. -/
def powers (S : Matrix n n ℝ) : Matrix n n ℝ :=
  (S + S * S) + (S * S) * (S + S * S) + ((S * S) * (S * S)) * ((S + S * S) + (S * S) * (S + S * S))

/-- `I + 2 (S + … + S⁸)`, the matrix the kernel multiplies by. -/
def weight (S : Matrix n n ℝ) : Matrix n n ℝ := 1 + (2 : ℝ) • powers S

/-- The fixed-point steps from `h`. -/
def steps (S : Matrix n n ℝ) (H : Matrix n k ℝ) : ℕ → Matrix n k ℝ
  | 0 => H
  | j + 1 => H - S * steps S H j

theorem steps_eq_mul (S : Matrix n n ℝ) (H : Matrix n k ℝ) (j : ℕ) : steps S H j = steps S 1 j * H := by
  induction j with
  | zero => exact (Matrix.one_mul H).symm
  | succ j ih => rw [steps, ih, steps, Matrix.sub_mul, Matrix.one_mul, Matrix.mul_assoc]

/-- Eight steps, doubled and less `h`, are one product with the transposed weight. -/
theorem two_steps_sub (S : Matrix n n ℝ) (hS : Sᵀ = -S) (H : Matrix n k ℝ) :
    (2 : ℝ) • steps S H 8 - H = (weight S)ᵀ * H := by
  have e : (weight S)ᵀ = (2 : ℝ) • steps S (1 : Matrix n n ℝ) 8 - 1 := by
    simp only [weight, powers, Matrix.transpose_add, Matrix.transpose_mul, Matrix.transpose_one, Matrix.transpose_smul, hS, steps, two_smul]
    noncomm_ring
  rw [e, steps_eq_mul, Matrix.sub_mul, Matrix.one_mul, Matrix.smul_mul]

/-- How far the weight is from the solve: `weight S (I - S) = I + S - 2 S⁹`. -/
theorem weight_mul_one_sub (S : Matrix n n ℝ) : weight S * (1 - S) = 1 + S - (2 : ℝ) • S ^ 9 := by
  simp only [weight, powers, two_smul]
  noncomm_ring

end Powers

/-! ## The skew matrix of a list of entries -/

section Skew

variable {ι : Type} [Fintype ι] (r c : ι → ℕ) (s : ι → ℝ)

/-- Each entry added at its place and subtracted at the mirrored one. -/
def skewOf {n : ℕ} : Matrix (Fin n) (Fin n) ℝ := fun R C =>
  (∑ e, if r e = R.val ∧ c e = C.val then s e else 0) - ∑ e, if c e = R.val ∧ r e = C.val then s e else 0

theorem skewOf_transpose {n : ℕ} : (skewOf r c s (n := n))ᵀ = -skewOf r c s := by
  ext R C
  simp only [Matrix.transpose_apply, Matrix.neg_apply, skewOf, neg_sub]
  congr 1 <;> refine Finset.sum_congr rfl fun e _ => if_congr and_comm rfl rfl

variable {r c s} (lt : ∀ e, r e < c e) (inj : ∀ e e', r e = r e' → c e = c e' → e = e')
include lt

theorem skewOf_none {n : ℕ} (R C : Fin n) (h : ∀ e, ¬(r e = R.val ∧ c e = C.val) ∧ ¬(c e = R.val ∧ r e = C.val)) : skewOf r c s R C = 0 := by
  unfold skewOf
  rw [Finset.sum_eq_zero fun e _ => if_neg (h e).1, Finset.sum_eq_zero fun e _ => if_neg (h e).2, sub_zero]

include inj

theorem skewOf_direct {n : ℕ} (R C : Fin n) (e : ι) (hr : r e = R.val) (hc : c e = C.val) : skewOf r c s R C = s e := by
  unfold skewOf
  have hlt := lt e
  rw [Finset.sum_eq_single_of_mem e (Finset.mem_univ _) fun e' _ ne => if_neg fun q => ne (inj _ _ (q.1.trans hr.symm) (q.2.trans hc.symm)),
    if_pos ⟨hr, hc⟩, Finset.sum_eq_zero fun e' _ => if_neg fun q => ?_, sub_zero]
  have := lt e'
  omega

theorem skewOf_mirror {n : ℕ} (R C : Fin n) (e : ι) (hc : c e = R.val) (hr : r e = C.val) : skewOf r c s R C = -s e := by
  have h := skewOf_direct lt inj (s := s) C R e hr hc
  have t := congrFun (congrFun (skewOf_transpose r c s (n := n)) R) C
  simp only [Matrix.transpose_apply, Matrix.neg_apply] at t
  rw [h] at t
  rw [t, neg_neg]

end Skew

/-! ## Arrays that hold a real matrix -/

/-- A finite sum of reals, as extended reals. -/
theorem coe_sum {ι : Type} (t : Finset ι) (f : ι → ℝ) : ((∑ e ∈ t, f e : ℝ) : EReal) = ∑ e ∈ t, (f e : EReal) := by
  classical
  induction t using Finset.induction_on with
  | empty => simp
  | insert a t ha ih => rw [Finset.sum_insert ha, Finset.sum_insert ha, EReal.coe_add, ih]

/-- The array's entries are the matrix's. -/
def Holds {n m : ℕ} (A : (⟨2, ![n, m]⟩ : Shape).Idx → EReal) (X : Matrix (Fin n) (Fin m) ℝ) : Prop := ∀ i j, A (ix2 i j) = (X i j : EReal)

theorem sum_mul_coe {n m l : ℕ} {A : (⟨2, ![n, m]⟩ : Shape).Idx → EReal} {X : Matrix (Fin n) (Fin m) ℝ} (hA : Holds A X)
    {B : (⟨2, ![m, l]⟩ : Shape).Idx → EReal} {Y : Matrix (Fin m) (Fin l) ℝ} (hB : Holds B Y) (i : Fin n) (j : Fin l) :
    ∑ k, A (ix2 i k) * B (ix2 k j) = (((X * Y) i j : ℝ) : EReal) := by
  rw [Matrix.mul_apply, coe_sum]
  exact Finset.sum_congr rfl fun k _ => by rw [hA i k, hB k j, EReal.coe_mul]

theorem zero_bits : Ideal.ofBits .f32 0x00000000#32 = ((0 : ℝ) : EReal) := by simp [Ideal.ofBits, Ideal.ieee]

theorem one_bits : Ideal.ofBits .f32 0x3F800000#32 = ((1 : ℝ) : EReal) := by
  simp [Ideal.ofBits, Ideal.ieee, -EReal.coe_mul]; norm_num

theorem two_bits : Ideal.ofBits .f32 0x40000000#32 = ((2 : ℝ) : EReal) := by
  simp [Ideal.ofBits, Ideal.ieee, -EReal.coe_mul]; norm_num

/-- A real array's entries, as extended reals. -/
def Reals {S : Shape} (A : S.Idx → EReal) (X : S.Idx → ℝ) : Prop := ∀ i, A i = (X i : EReal)

/-! ## Turning pairs -/

/-- The other lane of a pair. -/
def swap (x : Fin 1024) : Fin 1024 := if h : x.val % 2 = 0 then ⟨x.val + 1, by omega⟩ else ⟨x.val - 1, by omega⟩

theorem swap_swap (x : Fin 1024) : swap (swap x) = x := by
  by_cases hx : x.val % 2 = 0
  · have e : swap x = ⟨x.val + 1, by omega⟩ := dif_pos hx
    rw [e, swap, dif_neg (by show ¬ (x.val + 1) % 2 = 0; omega)]
    exact Fin.ext (by show x.val + 1 - 1 = x.val; omega)
  · have e : swap x = ⟨x.val - 1, by omega⟩ := dif_neg hx
    rw [e, swap, dif_pos (by show (x.val - 1) % 2 = 0; omega)]
    exact Fin.ext (by show x.val - 1 + 1 = x.val; omega)

/-- A lane's pair. -/
def half (x : Fin 1024) : Fin 512 := ⟨x.val / 2, by omega⟩

theorem half_swap (x : Fin 1024) : half (swap x) = half x := by
  unfold half swap
  refine Fin.ext ?_
  split
  · show (x.val + 1) / 2 = x.val / 2; omega
  · show (x.val - 1) / 2 = x.val / 2; omega

/-- Plus one on even lanes, minus one on odd ones. -/
def sgn (x : Fin 1024) : ℝ := if x.val % 2 = 0 then 1 else -1

/-- A row with every pair turned by its angle. -/
def turn (h : Fin 1024 → ℝ) (θ : Fin 512 → ℝ) (x : Fin 1024) : ℝ :=
  if x.val % 2 = 0 then h x * Real.cos (θ (half x)) - h (swap x) * Real.sin (θ (half x))
  else h (swap x) * Real.sin (θ (half x)) + h x * Real.cos (θ (half x))

theorem turn_even (h : Fin 1024 → ℝ) (θ : Fin 512 → ℝ) {x : Fin 1024} (hx : x.val % 2 = 0) :
    turn h θ x = h x * Real.cos (θ (half x)) - h (swap x) * Real.sin (θ (half x)) := if_pos hx

theorem turn_odd (h : Fin 1024 → ℝ) (θ : Fin 512 → ℝ) {x : Fin 1024} (hx : ¬ x.val % 2 = 0) :
    turn h θ x = h (swap x) * Real.sin (θ (half x)) + h x * Real.cos (θ (half x)) := if_neg hx

theorem lift_even {A B P Q : EReal} {a b p q : ℝ} (hA : A = a) (hB : B = b) (hP : P = p) (hQ : Q = q) :
    A * Ideal.cos (P * Q) - B * Ideal.sin (P * Q) = ((a * Real.cos (p * q) - b * Real.sin (p * q) : ℝ) : EReal) := by
  have h : P * Q = ((p * q : ℝ) : EReal) := by rw [hP, hQ, EReal.coe_mul]
  have hc : Ideal.cos (P * Q) = ((Real.cos (p * q) : ℝ) : EReal) := by rw [h]; rfl
  have hs : Ideal.sin (P * Q) = ((Real.sin (p * q) : ℝ) : EReal) := by rw [h]; rfl
  rw [hc, hs, hA, hB, EReal.coe_sub, EReal.coe_mul, EReal.coe_mul]

theorem lift_odd {A B P Q : EReal} {a b p q : ℝ} (hA : A = a) (hB : B = b) (hP : P = p) (hQ : Q = q) :
    A * Ideal.sin (P * Q) + B * Ideal.cos (P * Q) = ((a * Real.sin (p * q) + b * Real.cos (p * q) : ℝ) : EReal) := by
  have h : P * Q = ((p * q : ℝ) : EReal) := by rw [hP, hQ, EReal.coe_mul]
  have hc : Ideal.cos (P * Q) = ((Real.cos (p * q) : ℝ) : EReal) := by rw [h]; rfl
  have hs : Ideal.sin (P * Q) = ((Real.sin (p * q) : ℝ) : EReal) := by rw [h]; rfl
  rw [hc, hs, hA, hB, EReal.coe_add, EReal.coe_mul, EReal.coe_mul]

/-- One lane's share of a turned row, with the signs in the angles. -/
theorem turn_eq (h : Fin 1024 → ℝ) (p : ℝ) (f : Fin 512 → ℝ) (x : Fin 1024) :
    h x * Real.cos (p * (f (half x) * sgn x)) + h (swap x) * Real.sin (p * (f (half (swap x)) * sgn (swap x))) = turn h (fun i => p * f i) x := by
  rw [half_swap]
  unfold turn sgn
  by_cases hx : x.val % 2 = 0
  · have hs : ¬ (swap x).val % 2 = 0 := by unfold swap; rw [dif_pos hx]; show ¬ (x.val + 1) % 2 = 0; omega
    rw [if_pos hx, if_pos hx, if_neg hs, mul_one, mul_neg_one, mul_neg, Real.sin_neg]
    ring
  · have hs : (swap x).val % 2 = 0 := by unfold swap; rw [dif_neg hx]; show (x.val - 1) % 2 = 0; omega
    rw [if_neg hx, if_neg hx, if_pos hs, mul_one, mul_neg_one, mul_neg, Real.cos_neg]
    ring

/-- Multiplying by the weight and by its rows exchanged in pairs turns the row and multiplies by the weight. -/
theorem mix (h : Fin 1024 → ℝ) (p : ℝ) (f : Fin 512 → ℝ) (W : Fin 1024 → ℝ) :
    (∑ x, h x * Real.cos (p * (f (half x) * sgn x)) * W x) + ∑ x, h x * Real.sin (p * (f (half x) * sgn x)) * W (swap x)
      = ∑ x, turn h (fun i => p * f i) x * W x := by
  have e : ∑ x, h x * Real.sin (p * (f (half x) * sgn x)) * W (swap x)
      = ∑ x, h (swap x) * Real.sin (p * (f (half (swap x)) * sgn (swap x))) * W x :=
    Finset.sum_nbij' swap swap (fun _ _ => Finset.mem_univ _) (fun _ _ => Finset.mem_univ _) (fun x _ => swap_swap x) (fun x _ => swap_swap x)
      fun x _ => by rw [swap_swap]
  rw [e, ← Finset.sum_add_distrib]
  refine Finset.sum_congr rfl fun x _ => ?_
  rw [← turn_eq, add_mul]

end Cert.Proof

end
-- ==== Proof.KerReal.lean ====
/-
  The kernels' payloads over the reals: the weight of the skew matrix and its rows exchanged in pairs, the table of
  angles, and a block of rows turned and multiplied.
-/
module

public import proofs.«01_k».proof.Proof.Launch
public import proofs.«01_k».proof.Proof.Skew
public import proofs.«01_k».proof.Proof.Algebra
public import Idealize.ShloMosaic.Lib.Pointwise
public import Idealize.ShloMosaic.Lib.Pointwise.Contract

@[expose] public section

noncomputable section

namespace Cert.Proof

open Cert.KernelIdeal Cert.KernelIdeal.Gen Idealize.ShloMosaic

/-! ## The weight -/

abbrev sq : DotDims S1024x1024 S1024x1024 S1024x1024 := dot_S1024x1024_S1024x1024_S1024x1024_1_0_0_1_n_n

theorem mm_holds {A B : S1024x1024.Idx → EReal} {X Y : Matrix (Fin 1024) (Fin 1024) ℝ} (hA : Holds A X) (hB : Holds B Y) :
    Holds (matmul (F := Ideal) (φ₁ := .f32) (φ₂ := .f32) sq none A B (constant S1024x1024 .f32 0x00000000#32)) (X * Y) := by
  intro i j
  pointwise
  exact sum_mul_coe hA hB i j

theorem add_holds {A B : S1024x1024.Idx → EReal} {X Y : Matrix (Fin 1024) (Fin 1024) ℝ} (hA : Holds A X) (hB : Holds B Y) :
    Holds (addf (F := Ideal) (φ := .f32) A B) (X + Y) := by
  intro i j
  pointwise
  rw [hA i j, hB i j, ← EReal.coe_add]
  rfl

theorem eq_lane (i j : Fin 1024) : IntOp.cmpi .eq (BitVec.ofNat 32 i.val) (BitVec.ofNat 32 j.val) = if i = j then 1#1 else 0#1 := by
  have e : (BitVec.ofNat 32 i.val = BitVec.ofNat 32 j.val) ↔ i = j := by
    constructor
    · intro h
      have h' := congrArg BitVec.toNat h
      rw [BitVec.toNat_ofNat, BitVec.toNat_ofNat, Nat.mod_eq_of_lt (by omega), Nat.mod_eq_of_lt (by omega)] at h'
      exact Fin.ext h'
    · rintro rfl; rfl
  by_cases h : i = j
  · subst h; simp [IntOp.cmpi]
  · rw [if_neg h]
    show BitVec.ofBool (BitVec.ofNat 32 i.val == BitVec.ofNat 32 j.val) = 0#1
    rw [beq_eq_false_iff_ne.2 (mt e.1 h)]
    rfl

/-- One plus twice a matrix, as the kernel spells it. -/
def onePlusTwice (z : S1024x1024.Idx → EReal) : S1024x1024.Idx → EReal :=
  addf (F := Ideal) (φ := .f32)
    (select (cmpi .eq (iota .tc S1024x1024 32 [0] iota_S1024x1024_d0_w32) (iota .tc S1024x1024 32 [1] iota_S1024x1024_d1_w32))
      (broadcast S1024x1024 (Scalar.ofBits (F := Ideal) .f32 0x3F800000#32)) (broadcast S1024x1024 (Scalar.ofBits (F := Ideal) .f32 0x00000000#32)))
    (mulf (F := Ideal) (φ := .f32) (broadcast S1024x1024 (Scalar.ofBits (F := Ideal) .f32 0x40000000#32)) z)

theorem onePlusTwice_holds {z : S1024x1024.Idx → EReal} {X : Matrix (Fin 1024) (Fin 1024) ℝ} (hz : Holds z X) : Holds (onePlusTwice z) (1 + (2 : ℝ) • X) := by
  intro i j
  have h : onePlusTwice z (ix2 i j) = Scalar.select (IntOp.cmpi .eq (BitVec.ofNat 32 i.val) (BitVec.ofNat 32 j.val)) (Ideal.ofBits .f32 0x3F800000#32) (Ideal.ofBits .f32 0x00000000#32)
      + Ideal.ofBits .f32 0x40000000#32 * z (ix2 i j) := by
    unfold onePlusTwice
    show Scalar.select (IntOp.cmpi .eq (iota .tc S1024x1024 32 [0] iota_S1024x1024_d0_w32 (ix2 i j)) (iota .tc S1024x1024 32 [1] iota_S1024x1024_d1_w32 (ix2 i j))) _ _ + _ = _
    rw [iota_single_apply, iota_single_apply]
    rfl
  rw [h, eq_lane, one_bits, zero_bits, two_bits, hz i j, Matrix.add_apply, Matrix.smul_apply, Matrix.one_apply, smul_eq_mul, EReal.coe_add, EReal.coe_mul]
  split <;> rfl

theorem pay1_holds {A : S1024x1024.Idx → EReal} {X : Matrix (Fin 1024) (Fin 1024) ℝ} (hA : Holds A X) : Holds (k1_pay1 (F := Ideal) A) (weight X) := by
  have h1 : Holds (shapeCast S1024x1024 A shapeCasts_S1024x1024_S1024x1024) X := by
    intro i j; pointwise; exact hA i j
  have h2 := mm_holds h1 h1
  have h3 := add_holds h1 h2
  have h5 := add_holds h3 (mm_holds h2 h3)
  exact onePlusTwice_holds (add_holds h5 (mm_holds (mm_holds h2 h2) h5))

/-! ## The angles -/

theorem minus_one_bits : Ideal.ofBits .f32 0xBF800000#32 = ((-1 : ℝ) : EReal) := by
  simp [Ideal.ofBits, Ideal.ieee, -EReal.coe_mul, -EReal.coe_neg]; norm_num

theorem parity_apply (x : Fin 1024) : parity (ix1 x) = BitVec.ofNat 32 (x.val % 2) := by
  revert x
  decide +kernel

theorem signs_apply (x : Fin 1024) : signs (F := Ideal) (ix1 x) = ((sgn x : ℝ) : EReal) := by
  have h : signs (F := Ideal) (ix1 x) = Scalar.select (IntOp.cmpi .eq (parity (ix1 x)) 0#32) (Ideal.ofBits .f32 0x3F800000#32) (Ideal.ofBits .f32 0xBF800000#32) := rfl
  rw [h, parity_apply, one_bits, minus_one_bits]
  unfold sgn
  rcases Nat.mod_two_eq_zero_or_one x.val with e | e <;> rw [e] <;> rfl

theorem freq2_apply {f : S512.Idx → EReal} {f' : S512.Idx → ℝ} (hf : Reals f f') (x : Fin 1024) :
    freq2 (F := Ideal) f (ix1 x) = ((f' (ix1 (half x)) * sgn x : ℝ) : EReal) := by
  pointwise [freq2]
  rw [signs_apply, hf, EReal.coe_mul]
  rfl

theorem posTab_apply {p : S4096.Idx → EReal} {p' : S4096.Idx → ℝ} (hp : Reals p p') (n : Fin 4096) (k : Fin 16) :
    posTab (F := Ideal) p (ix2 n k) = ((if k.val < 3 then p' (ix1 n) else 0 : ℝ) : EReal) := by
  have h0 : p (ix1 n) - p (ix1 n) = 0 := by rw [hp, ← EReal.coe_sub, sub_self, EReal.coe_zero]
  pointwise [posTab, beside, col, hi, mid, lo]
  rw [h0, sub_zero, hp]
  obtain ⟨k, hk⟩ := k
  interval_cases k <;> simp

theorem freqTab_apply {g : S1024.Idx → EReal} {g' : Fin 1024 → ℝ} (hg : ∀ x, g (ix1 x) = (g' x : EReal)) (k : Fin 16) (x : Fin 1024) :
    freqTab (F := Ideal) g (ix2 k x) = ((if k.val = 0 ∨ k.val = 3 ∨ k.val = 6 then g' x else 0 : ℝ) : EReal) := by
  have h0 : g (ix1 x) - g (ix1 x) = 0 := by rw [hg, ← EReal.coe_sub, sub_self, EReal.coe_zero]
  pointwise [freqTab, below, row, hi, mid, lo, Proof.spread]
  rw [h0, sub_zero, hg]
  obtain ⟨k, hk⟩ := k
  interval_cases k <;> simp

/-- The product of the two tables: a position times a signed frequency. -/
theorem angle_sum {p : S4096.Idx → EReal} {p' : S4096.Idx → ℝ} (hp : Reals p p') {f : S512.Idx → EReal} {f' : S512.Idx → ℝ} (hf : Reals f f')
    (n : Fin 4096) (x : Fin 1024) :
    ∑ k, posTab (F := Ideal) p (ix2 n k) * freqTab (F := Ideal) (freq2 (F := Ideal) f) (ix2 k x) = ((p' (ix1 n) * (f' (ix1 (half x)) * sgn x) : ℝ) : EReal) := by
  rw [Finset.sum_eq_single_of_mem (0 : Fin 16) (Finset.mem_univ _)]
  · rw [posTab_apply hp, freqTab_apply (freq2_apply hf), ← EReal.coe_mul]
    rfl
  · intro k _ hk
    rw [posTab_apply hp, freqTab_apply (freq2_apply hf), ← EReal.coe_mul]
    have : k.val ≠ 0 := fun h => hk (Fin.ext h)
    by_cases h3 : k.val < 3
    · rw [if_neg (show ¬(k.val = 0 ∨ k.val = 3 ∨ k.val = 6) by omega), mul_zero, EReal.coe_zero]
    · rw [if_neg h3, zero_mul, EReal.coe_zero]

/-- The second block of the stacked pair: the weight's rows, exchanged in pairs. -/
theorem pay2_holds {A : S1024x1024.Idx → EReal} {X : Matrix (Fin 1024) (Fin 1024) ℝ} (hA : Holds A X) :
    Holds (k1_pay2 (F := Ideal) A) fun R C => weight X (swap R) C := by
  intro R C
  have hR := R.isLt
  have hb : IntOp.cmpi .eq (IntOp.andi (BitVec.ofNat 32 R.val) 1#32) 0#32 = if R.val % 2 = 0 then 1#1 else 0#1 := by
    revert R
    decide +kernel
  pointwise [k1_pay2]
  rw [hb]
  by_cases hm : R.val % 2 = 0
  · rw [if_pos hm, dif_pos (show R.val < 1023 by omega), pay1_holds hA]
    have e : swap R = ⟨1 + R.val, by omega⟩ := (dif_pos hm).trans (Fin.ext (Nat.add_comm _ _))
    rw [e]
    rfl
  · rw [if_neg hm, dif_neg (show ¬ R.val < 1 by omega)]
    have e : swap R = ⟨R.val - 1, by omega⟩ := dif_neg hm
    rw [e]
    exact pay1_holds hA _ _

/-! ## A block of rows -/

theorem cos_real {a : EReal} {x : ℝ} (h : a = x) : Ideal.cos a = ((Real.cos x : ℝ) : EReal) := by rw [h]; rfl
theorem sin_real {a : EReal} {x : ℝ} (h : a = x) : Ideal.sin a = ((Real.sin x : ℝ) : EReal) := by rw [h]; rfl

theorem pay6_apply {p : S512x16.Idx → EReal} {w : S16x1024.Idx → EReal} {m1 m2 : S1024x1024.Idx → EReal} {h : S1x512x1024.Idx → EReal}
    {W : Matrix (Fin 1024) (Fin 1024) ℝ} (h1 : Holds m1 W) (h2 : Holds m2 fun R C => W (swap R) C) (n : Fin 512) (j : Fin 1024)
    (P : ℝ) (f : Fin 512 → ℝ) (ha : ∀ x : Fin 1024, ∑ k, p (ix2 n k) * w (ix2 k x) = ((P * (f (half x) * sgn x) : ℝ) : EReal))
    (h' : Fin 1024 → ℝ) (hh : ∀ x, h (ix3 (0 : Fin 1) n x) = (h' x : EReal)) :
    k2_pay6 (F := Ideal) p w m1 m2 h (ix3 (0 : Fin 1) n j) = ((∑ x, turn h' (fun i => P * f i) x * W x j : ℝ) : EReal) := by
  pointwise [k2_pay6, k2_pay5, k2_pay4, k2_pay3, k2_pay2, k2_pay1]
  rw [← mix h' P f fun x => W x j, EReal.coe_add, coe_sum, coe_sum]
  refine congrArg₂ (· + ·) (Finset.sum_congr rfl fun x _ => ?_) (Finset.sum_congr rfl fun x _ => ?_)
  · rw [hh x, cos_real (ha x), h1 x j, ← EReal.coe_mul, ← EReal.coe_mul]
  · rw [hh x, sin_real (ha x), h2 x j, ← EReal.coe_mul, ← EReal.coe_mul]

/-! ## The skew matrix -/

section Skew

variable {r c : S5237.Idx → BitVec 32} {u : S5237.Idx → EReal} {v : S5237.Idx → ℝ}

abbrev padI (a : S5237.Idx → BitVec 32) : S5248.Idx → BitVec 32 := tail11 a (broadcastInDim S11 ![] bcast_S_S11 (constantI S_ 32 0#32))
abbrev padF (a : S5237.Idx → EReal) : S5248.Idx → EReal := tail11 a (broadcastInDim S11 ![] bcast_S_S11 (constant (F := Ideal) S_ .f32 0x00000000#32))

theorem flat_holds (lt : ∀ e, (r e).toNat < (c e).toNat) (hc : ∀ e, (c e).toNat < 1024)
    (inj : ∀ e e', (r e).toNat = (r e').toNat → (c e).toNat = (c e').toNat → e = e') (hu : Reals u v) :
    Holds (shapeCast S1024x1024 (flat (F := Ideal) (padI r) (padI c) (padF u)) shapeCasts_S1048576_S1024x1024)
      (skewOf (fun e => (r e).toNat) (fun e => (c e).toNat) v) := by
  intro R C
  have hR := R.isLt
  have hC := C.isLt
  have e : shapeCast S1024x1024 (flat (F := Ideal) (padI r) (padI c) (padF u)) shapeCasts_S1048576_S1024x1024 (ix2 R C)
      = flat (F := Ideal) (padI r) (padI c) (padF u) (ix1 (⟨R.val * 1024 + C.val, by omega⟩ : Fin 1048576)) := by
    generalize flat (F := Ideal) (padI r) (padI c) (padF u) = z
    pointwise
  rw [e]
  have hz : (0 : EReal) - 0 = 0 := sub_zero 0
  have h := flat_stands (F := Ideal) (padI r) (padI c) (padF u) (tail_below r fun e => (lt e).trans (hc e)) (tail_below c hc) (ix1 (⟨R.val * 1024 + C.val, by omega⟩ : Fin 1048576))
  have e1 : (R.val * 1024 + C.val) / 1024 = R.val := by omega
  have e2 : (R.val * 1024 + C.val) % 1024 = C.val := by omega
  change Stands (F := Ideal) (padI r) (padI c) (padF u) 5248 ((R.val * 1024 + C.val) / 1024) ((R.val * 1024 + C.val) % 1024) _ at h
  rw [e1, e2] at h
  have none0 (h0 : R.val = C.val) : skewOf (fun e => (r e).toNat) (fun e => (c e).toNat) v R C = 0 :=
    skewOf_none lt R C fun e => by have := lt e; constructor <;> omega
  have rR (j : S5248.Idx) (hj : 5237 ≤ (j 0).val) : (padI r j).toNat = 0 := by unfold padI; rw [tail11_right _ _ j hj]; rfl
  have cR (j : S5248.Idx) (hj : 5237 ≤ (j 0).val) : (padI c j).toNat = 0 := by unfold padI; rw [tail11_right _ _ j hj]; rfl
  have uR (j : S5248.Idx) (hj : 5237 ≤ (j 0).val) : padF u j = ((0 : ℝ) : EReal) := by unfold padF; rw [tail11_right _ _ j hj]; exact zero_bits
  rcases h with ⟨y, no⟩ | ⟨j, h1, h2, y⟩ | ⟨j, h1, h2, y⟩
  · refine y.trans (zero_bits.trans (congrArg Real.toEReal (skewOf_none lt R C fun e => ?_).symm))
    have hj : (e 0).val < 5237 := (e 0).isLt
    have n := no (ix1 (⟨(e 0).val, by omega⟩ : Fin 5248)) (by show (e 0).val < 5248; omega)
    unfold padI at n
    rw [tail11_left _ _ _ hj, tail11_left _ _ _ hj] at n
    have ee : (Shape.ofLane (d := ![5237]) ⟨(e 0).val, hj⟩ : S5237.Idx) = e := by
      funext a
      obtain rfl : a = 0 := Subsingleton.elim _ _
      rfl
    have n' : ¬((r (Shape.ofLane (d := ![5237]) ⟨(e 0).val, hj⟩)).toNat = R.val ∧ (c (Shape.ofLane (d := ![5237]) ⟨(e 0).val, hj⟩)).toNat = C.val)
      ∧ ¬((c (Shape.ofLane (d := ![5237]) ⟨(e 0).val, hj⟩)).toNat = R.val ∧ (r (Shape.ofLane (d := ![5237]) ⟨(e 0).val, hj⟩)).toNat = C.val) := n
    rw [ee] at n'
    exact n'
  · rcases Nat.lt_or_ge (j 0).val 5237 with hj | hj
    · unfold padI at h1 h2
      rw [tail11_left _ _ j hj] at h1 h2
      rw [y, padF, tail11_left _ _ j hj, hu]
      exact congrArg Real.toEReal (skewOf_direct lt inj R C _ h1 h2).symm
    · rw [rR j hj] at h1
      rw [cR j hj] at h2
      rw [y, uR j hj, none0 (by omega)]
  · have y' : flat (F := Ideal) (padI r) (padI c) (padF u) (ix1 (⟨R.val * 1024 + C.val, by omega⟩ : Fin 1048576)) = Ideal.ofBits .f32 0x00000000#32 - padF u j := y
    rcases Nat.lt_or_ge (j 0).val 5237 with hj | hj
    · unfold padI at h1 h2
      rw [tail11_left _ _ j hj] at h1 h2
      rw [y', padF, tail11_left _ _ j hj, hu, zero_bits, ← EReal.coe_sub, zero_sub]
      exact congrArg Real.toEReal (skewOf_mirror lt inj R C _ h1 h2).symm
    · rw [cR j hj] at h1
      rw [rR j hj] at h2
      rw [y', uR j hj, none0 (by omega), zero_bits, ← EReal.coe_sub, sub_zero]

end Skew

end Cert.Proof

end
-- ==== Proof.KerVal.lean ====
/-
  What the kernel leaves in its two results, over the reals.
-/
module

public import proofs.«01_k».proof.Proof.KerReal
public import proofs.«01_k».proof.Proof.Gen.KernelIdeal.Points
public import Idealize.ShloMosaic.Lib.Pipeline.ValueKit

@[expose] public section

noncomputable section

namespace Cert.Proof

open Cert.KernelIdeal Cert.KernelIdeal.Gen Idealize.ShloMosaic Idealize.ShloMosaic.TcCoe
open Idealize.ShloMosaic.Pipeline (Dat)

variable {F : FTy → Type} [FloatOps F]

/-! ## Where the blocks lie -/

theorem idx1_1 : win1_1.WholeAt t1_0 := by decide +kernel

theorem emb1_0 (j : S1024x1024.Idx) : ((cfg1.win 0).blk t1_0).view.emb j = j := by
  have e : ∀ a : Fin 2, win1_0.index t1_0 a = 0 := by decide +kernel
  have e0 := e 0
  have e1 := e 1
  funext a; apply Fin.ext
  match a with
  | ⟨0, _⟩ => show win1_0.index t1_0 (0 : Fin 2) * 1024 + 1 * (j 0).val = (j 0).val; omega
  | ⟨1, _⟩ => show win1_0.index t1_0 (1 : Fin 2) * 1024 + 1 * (j 1).val = (j 1).val; omega

section Regions

variable (V : (c : Dev nD) → (b : Ref sig .tc) → Buf (Elt F) ((c : Thread nD τ).loc b)) (c : Dev nD)

theorem skew_eq : skew V c = V c main_v7 := by
  funext j
  show V c main_v7 (((cfg1.win 0).blk t1_0).view.emb j) = V c main_v7 j
  rw [emb1_0]

theorem stacked_eq : stacked V c = cayley (V c main_v7) := by
  rw [show cayley (V c main_v7) = cayley (skew V c) from congrArg cayley (skew_eq V c).symm]
  exact (dat1 V c).arrAt_eq_of_after_last 1 t1_0 idx1_1 (cayley (skew V c)) fun j => rfl

theorem idx2_0 : ∀ t : Fin grid2.N, win2_0.index t (0 : Fin 2) = (grid2.coords t 1).val ∧ win2_0.index t (1 : Fin 2) = 0 := by decide +kernel
theorem idx2_1 : ∀ t : Fin grid2.N, win2_1.index t (0 : Fin 2) = 0 ∧ win2_1.index t (1 : Fin 2) = 0 := by decide +kernel
theorem idx2_2 : ∀ t : Fin grid2.N, win2_2.index t (0 : Fin 3) = (grid2.coords t 0).val ∧ win2_2.index t (1 : Fin 3) = (grid2.coords t 1).val ∧ win2_2.index t (2 : Fin 3) = 0 := by decide +kernel
theorem idx2_3 : ∀ t : Fin grid2.N, win2_3.index t (0 : Fin 3) = (grid2.coords t 0).val ∧ win2_3.index t (1 : Fin 3) = (grid2.coords t 1).val ∧ win2_3.index t (2 : Fin 3) = 0 := by decide +kernel
theorem idx2_4 : ∀ t : Fin grid2.N, win2_4.index t (0 : Fin 2) = 0 ∧ win2_4.index t (1 : Fin 2) = 0 := by decide +kernel
theorem idx2_5 : ∀ t : Fin grid2.N, win2_5.index t (0 : Fin 3) = (grid2.coords t 0).val ∧ win2_5.index t (1 : Fin 3) = (grid2.coords t 1).val ∧ win2_5.index t (2 : Fin 3) = 0 := by decide +kernel
theorem idx2_6 : ∀ t : Fin grid2.N, win2_6.index t (0 : Fin 3) = (grid2.coords t 0).val ∧ win2_6.index t (1 : Fin 3) = (grid2.coords t 1).val ∧ win2_6.index t (2 : Fin 3) = 0 := by decide +kernel

/-- A point's batch, and the place of its block's row `n`. -/
def batch (t : Fin cfg2.N) : Fin 2 := ⟨(grid2.coords t 0).val, (grid2.coords t 0).isLt⟩
def place (t : Fin cfg2.N) (n : Fin 512) : Fin 4096 :=
  ⟨(grid2.coords t 1).val * 512 + n.val, by have h : (grid2.coords t 1).val < 8 := (grid2.coords t 1).isLt; omega⟩

theorem posB_apply (t : Fin cfg2.N) (n : Fin 512) (k : Fin 16) : posB V c t (ix2 n k) = (V c main_v47 : S4096x16.Idx → F .f32) (ix2 (place t n) k) := by
  obtain ⟨e0, e1⟩ := idx2_0 t
  refine congrArg (V c main_v47 : S4096x16.Idx → F .f32) (funext fun a => Fin.ext ?_)
  match a with
  | ⟨0, _⟩ => show win2_0.index t (0 : Fin 2) * 512 + 1 * n.val = (grid2.coords t 1).val * 512 + n.val; omega
  | ⟨1, _⟩ => show win2_0.index t (1 : Fin 2) * 16 + 1 * k.val = k.val; omega

theorem freqB_eq (t : Fin cfg2.N) : freqB V c t = V c main_v65 := by
  obtain ⟨e0, e1⟩ := idx2_1 t
  funext j
  refine congrArg (V c main_v65 : S16x1024.Idx → F .f32) (funext fun a => Fin.ext ?_)
  match a with
  | ⟨0, _⟩ => show win2_1.index t (0 : Fin 2) * 16 + 1 * (j 0).val = (j 0).val; omega
  | ⟨1, _⟩ => show win2_1.index t (1 : Fin 2) * 1024 + 1 * (j 1).val = (j 1).val; omega

theorem matB_eq (t : Fin cfg2.N) : matB V c t = V c main_v8 := by
  obtain ⟨e0, e1⟩ := idx2_4 t
  funext j
  refine congrArg (V c main_v8 : S2048x1024.Idx → F .f32) (funext fun a => Fin.ext ?_)
  match a with
  | ⟨0, _⟩ => show win2_4.index t (0 : Fin 2) * 2048 + 1 * (j 0).val = (j 0).val; omega
  | ⟨1, _⟩ => show win2_4.index t (1 : Fin 2) * 1024 + 1 * (j 1).val = (j 1).val; omega

theorem qB_apply (t : Fin cfg2.N) (n : Fin 512) (x : Fin 1024) :
    qB V c t (ix3 (0 : Fin 1) n x) = (V c main_arg0 : S2x4096x1024.Idx → F .f32) (ix3 (batch t) (place t n) x) := by
  obtain ⟨e0, e1, e2⟩ := idx2_2 t
  refine congrArg (V c main_arg0 : S2x4096x1024.Idx → F .f32) (funext fun a => Fin.ext ?_)
  match a with
  | ⟨0, _⟩ => show win2_2.index t (0 : Fin 3) * 1 + 1 * 0 = (grid2.coords t 0).val; omega
  | ⟨1, _⟩ => show win2_2.index t (1 : Fin 3) * 512 + 1 * n.val = (grid2.coords t 1).val * 512 + n.val; omega
  | ⟨2, _⟩ => show win2_2.index t (2 : Fin 3) * 1024 + 1 * x.val = x.val; omega

theorem kB_apply (t : Fin cfg2.N) (n : Fin 512) (x : Fin 1024) :
    kB V c t (ix3 (0 : Fin 1) n x) = (V c main_arg1 : S2x4096x1024.Idx → F .f32) (ix3 (batch t) (place t n) x) := by
  obtain ⟨e0, e1, e2⟩ := idx2_3 t
  refine congrArg (V c main_arg1 : S2x4096x1024.Idx → F .f32) (funext fun a => Fin.ext ?_)
  match a with
  | ⟨0, _⟩ => show win2_3.index t (0 : Fin 3) * 1 + 1 * 0 = (grid2.coords t 0).val; omega
  | ⟨1, _⟩ => show win2_3.index t (1 : Fin 3) * 512 + 1 * n.val = (grid2.coords t 1).val * 512 + n.val; omega
  | ⟨2, _⟩ => show win2_3.index t (2 : Fin 3) * 1024 + 1 * x.val = x.val; omega

theorem emb2_5 (t : Fin cfg2.N) (n : Fin 512) (x : Fin 1024) :
    ((cfg2.win 5).blk t).view.emb (ix3 (0 : Fin 1) n x) = ix3 (batch t) (place t n) x := by
  obtain ⟨e0, e1, e2⟩ := idx2_5 t
  refine funext fun a => Fin.ext ?_
  match a with
  | ⟨0, _⟩ => show win2_5.index t (0 : Fin 3) * 1 + 1 * 0 = (grid2.coords t 0).val; omega
  | ⟨1, _⟩ => show win2_5.index t (1 : Fin 3) * 512 + 1 * n.val = (grid2.coords t 1).val * 512 + n.val; omega
  | ⟨2, _⟩ => show win2_5.index t (2 : Fin 3) * 1024 + 1 * x.val = x.val; omega

theorem emb2_6 (t : Fin cfg2.N) (n : Fin 512) (x : Fin 1024) :
    ((cfg2.win 6).blk t).view.emb (ix3 (0 : Fin 1) n x) = ix3 (batch t) (place t n) x := by
  obtain ⟨e0, e1, e2⟩ := idx2_6 t
  refine funext fun a => Fin.ext ?_
  match a with
  | ⟨0, _⟩ => show win2_6.index t (0 : Fin 3) * 1 + 1 * 0 = (grid2.coords t 0).val; omega
  | ⟨1, _⟩ => show win2_6.index t (1 : Fin 3) * 512 + 1 * n.val = (grid2.coords t 1).val * 512 + n.val; omega
  | ⟨2, _⟩ => show win2_6.index t (2 : Fin 3) * 1024 + 1 * x.val = x.val; omega

/-- A block's index by its row and column. -/
theorem block_idx (y : S1x512x1024.Idx) : ∃ (n : Fin 512) (x : Fin 1024), y = ix3 (0 : Fin 1) n x := by
  refine ⟨⟨(y 1).val, (y 1).isLt⟩, ⟨(y 2).val, (y 2).isLt⟩, funext fun a => Fin.ext ?_⟩
  match a with
  | ⟨0, _⟩ => have h : (y 0).val < 1 := (y 0).isLt; show (y 0).val = 0; omega
  | ⟨1, _⟩ => rfl
  | ⟨2, _⟩ => rfl

/-- The first result is `G` where every point's rotated block is `G` at the block's places. -/
theorem outQ_eq (G : S2x4096x1024.Idx → F .f32)
    (h : ∀ t n x, rotate (posB V c t) (freqB V c t) (matB V c t) (qB V c t) (ix3 (0 : Fin 1) n x) = G (ix3 (batch t) (place t n) x)) :
    outQ V c = G := by
  refine (dat2 V c).arrAt_eq_of_covers 5 G (by decide +kernel) fun t _ y => ?_
  obtain ⟨n, x, rfl⟩ := block_idx y
  rw [emb2_5]
  exact h t n x

theorem outK_eq (G : S2x4096x1024.Idx → F .f32)
    (h : ∀ t n x, rotate (posB V c t) (freqB V c t) (matB V c t) (kB V c t) (ix3 (0 : Fin 1) n x) = G (ix3 (batch t) (place t n) x)) :
    outK V c = G := by
  refine (dat2 V c).arrAt_eq_of_covers 6 G (by decide +kernel) fun t _ y => ?_
  obtain ⟨n, x, rfl⟩ := block_idx y
  rw [emb2_6]
  exact h t n x

end Regions

/-! ## What the second region finds -/

section Entry

variable (m : (ℓ : Loc nD τ sig) → Buf (Elt F) ℓ) (d : Dev nD)

theorem W4_arg (r : Ref sig .tc) (h0 : r ∉ outs0) (h1 : r ∉ outs1) (h6 : r ≠ main_v6) (h8 : r ≠ main_v8) :
    W4 m d (at' r) = m ((d : Thread nD τ).loc r) := by
  unfold W4
  rw [Function.update_of_ne (at_ne h8)]
  unfold W3
  rw [keep1 _ h1, W2_other m d (at_ne h6)]
  unfold W1
  rw [keep0 _ h0]
  rfl

theorem V5_arg0 : V5 m d main_arg0 = m ((d : Thread nD τ).loc main_arg0) := by
  show W5 m d (at' main_arg0) = _
  unfold W5
  rw [keep4 _ (by decide), keep3 _ (by decide), keep2 _ (by decide), W4_arg m d _ (by decide) (by decide) (by decide) (by decide)]

theorem V5_arg1 : V5 m d main_arg1 = m ((d : Thread nD τ).loc main_arg1) := by
  show W5 m d (at' main_arg1) = _
  unfold W5
  rw [keep4 _ (by decide), keep3 _ (by decide), keep2 _ (by decide), W4_arg m d _ (by decide) (by decide) (by decide) (by decide)]

theorem V5_v47 : V5 m d main_v47 = posTab (m ((d : Thread nD τ).loc main_arg2)) := by
  show W5 m d (at' main_v47) = _
  unfold W5
  rw [keep4 _ (by decide), after3_v47, keep2 _ (by decide), W4_arg m d _ (by decide) (by decide) (by decide) (by decide)]

theorem V5_v65 : V5 m d main_v65 = freqTab (freq2 (m ((d : Thread nD τ).loc main_arg4))) := by
  show W5 m d (at' main_v65) = _
  unfold W5
  rw [after4_v65, after2_v17, W4_arg m d _ (by decide) (by decide) (by decide) (by decide)]

/-- The tables as the SparseCore call is handed them, read back: the array it leaves, laid out as a matrix. -/
theorem V3_v7 : V3 m d main_v7 = shapeCast S1024x1024 (fl (tabs m) d) shapeCasts_S1048576_S1024x1024 := by
  show W3 m d (at' main_v7) = _
  unfold W3
  rw [after1_v7, W2_out]

theorem V5_v8 : V5 m d main_v8 = cayley (shapeCast S1024x1024 (fl (tabs m) d) shapeCasts_S1048576_S1024x1024) := by
  show W5 m d (at' main_v8) = _
  unfold W5
  rw [keep4 _ (by decide), keep3 _ (by decide), keep2 _ (by decide)]
  unfold W4
  rw [Function.update_self, stacked_eq, V3_v7]

end Entry

end Cert.Proof

end
-- ==== Proof.RefVal.lean ====
/-
  The reference program's two results, taken apart: the skew matrix by two scatters, the turned rows as columns, and eight
  steps with the matrix.
-/
module

public import proofs.«01_k».proof.Proof.Gen.ReferenceIdeal.Run

@[expose] public section

noncomputable section

namespace Cert.Proof.Ref

open Cert.ReferenceIdeal Cert.ReferenceIdeal.Gen Idealize.ShloMosaic Idealize.ShloMosaic.TcCoe Idealize.SL.Sem Idealize.ShloMosaic.StableHlo

variable {F : FTy → Type} [FloatOps F]

/-- An index column: a negative index counted from the end. -/
def column (r : S5237.Idx → BitVec 32) : S5237x1.Idx → BitVec 32 :=
  broadcastInDim S5237x1 ![0] bcast_S5237_S5237x1_0 (select (cmpi .slt r (broadcastInDim S5237 ![] bcast_S_S5237 (constantI S_ 32 0#32))) (addi r (broadcastInDim S5237 ![] bcast_S_S5237 (constantI S_ 32 1024#32))) r)

/-- Two index columns side by side. -/
def pairs (a b : S5237x1.Idx → BitVec 32) : S5237x2.Idx → BitVec 32 :=
  concatenate S5237x2 1 [⟨S5237x1, a⟩, ⟨S5237x1, b⟩] concatenates_S5237x1_S5237x1_S5237x2_d1

/-- The skew matrix: the entries added at their places, their negatives at the mirrored places. -/
def skewM (r c : S5237.Idx → BitVec 32) (s : S5237.Idx → F .f32) : S1024x1024.Idx → F .f32 :=
  Host.scatterAdd (F := F) (φ := .f32) scatter_S1024x1024_S5237x2_S5237_n_01_01_1
    (Host.scatterAdd (F := F) (φ := .f32) scatter_S1024x1024_S5237x2_S5237_n_01_01_1 (broadcastInDim S1024x1024 ![] bcast_S_S1024x1024 (constant (F := F) S_ .f32 0x00000000#32)) (pairs (column r) (column c)) s)
    (pairs (column c) (column r)) (Host.negf (F := F) (φ := .f32) s)

/-- The angles: a row's position times a pair's frequency. -/
def angle (p : S4096.Idx → F .f32) (f : S512.Idx → F .f32) : S1x4096x512.Idx → F .f32 :=
  mulf (F := F) (φ := .f32) (broadcastInDim S1x4096x512 ![0, 1, 2] bcast_S1x4096x1_S1x4096x512_0_1_2 (shapeCast S1x4096x1 p shapeCasts_S4096_S1x4096x1))
    (broadcastInDim S1x4096x512 ![0, 1, 2] bcast_S1x1x512_S1x4096x512_0_1_2 (shapeCast S1x1x512 f shapeCasts_S512_S1x1x512))

/-- A table over rows and pairs, the same for every batch. -/
def spread (a : S1x4096x512.Idx → F .f32) : S2x4096x512x1.Idx → F .f32 :=
  broadcastInDim S2x4096x512x1 ![0, 1, 2, 3] bcast_S1x4096x512x1_S2x4096x512x1_0_1_2_3 (broadcastInDim S1x4096x512x1 ![0, 1, 2] bcast_S1x4096x512_S1x4096x512x1_0_1_2 a)

def cosT (p : S4096.Idx → F .f32) (f : S512.Idx → F .f32) : S2x4096x512x1.Idx → F .f32 := spread (Host.cos (F := F) (φ := .f32) (angle p f))
def sinT (p : S4096.Idx → F .f32) (f : S512.Idx → F .f32) : S2x4096x512x1.Idx → F .f32 := spread (Host.sin (F := F) (φ := .f32) (angle p f))

/-- The first and the second entry of each pair. -/
def even (h : S2x4096x1024.Idx → F .f32) : S2x4096x512x1.Idx → F .f32 :=
  extractStridedSlice S2x4096x512x1 ![0, 0, 0, 0] (shapeCast S2x4096x512x2 h shapeCasts_S2x4096x1024_S2x4096x512x2) slices_S2x4096x512x2_S2x4096x512x1_0_0_0_0
def odd (h : S2x4096x1024.Idx → F .f32) : S2x4096x512x1.Idx → F .f32 :=
  extractStridedSlice S2x4096x512x1 ![0, 0, 0, 1] (shapeCast S2x4096x512x2 h shapeCasts_S2x4096x1024_S2x4096x512x2) slices_S2x4096x512x2_S2x4096x512x1_0_0_0_1

/-- Every pair turned by its angle. -/
def turned (h : S2x4096x1024.Idx → F .f32) (p : S4096.Idx → F .f32) (f : S512.Idx → F .f32) : S2x4096x512x2.Idx → F .f32 :=
  concatenate S2x4096x512x2 3
    [⟨S2x4096x512x1, subf (F := F) (φ := .f32) (mulf (F := F) (φ := .f32) (even h) (cosT p f)) (mulf (F := F) (φ := .f32) (odd h) (sinT p f))⟩,
      ⟨S2x4096x512x1, addf (F := F) (φ := .f32) (mulf (F := F) (φ := .f32) (even h) (sinT p f)) (mulf (F := F) (φ := .f32) (odd h) (cosT p f))⟩]
    concatenates_S2x4096x512x1_S2x4096x512x1_S2x4096x512x2_d3

/-- The turned rows as columns. -/
def cols (x : S2x4096x512x2.Idx → F .f32) : S1024x8192.Idx → F .f32 :=
  transpose S1024x8192 [1, 0] (shapeCast S8192x1024 (shapeCast S2x4096x1024 x shapeCasts_S2x4096x512x2_S2x4096x1024) shapeCasts_S2x4096x1024_S8192x1024) transposes_S8192x1024_S1024x8192_1_0

/-- One step. -/
def step (S : S1024x1024.Idx → F .f32) (H z : S1024x8192.Idx → F .f32) : S1024x8192.Idx → F .f32 :=
  subf (F := F) (φ := .f32) H (Host.dotGeneral (F := F) (φ₁ := .f32) (φ₂ := .f32) dot_S1024x1024_S1024x8192_S1024x8192_1_0_0_1_n_n none S z)

/-- Twice the eighth step less the start. -/
def last (S : S1024x1024.Idx → F .f32) (H : S1024x8192.Idx → F .f32) : S1024x8192.Idx → F .f32 :=
  subf (F := F) (φ := .f32) (mulf (F := F) (φ := .f32) (broadcastInDim S1024x8192 ![] bcast_S_S1024x8192 (constant (F := F) S_ .f32 0x40000000#32))
    (step S H (step S H (step S H (step S H (step S H (step S H (step S H (step S H H)))))))) ) H

/-- Columns back to rows. -/
def rows (z : S1024x8192.Idx → F .f32) : S2x4096x1024.Idx → F .f32 :=
  shapeCast S2x4096x1024 (transpose S8192x1024 [1, 0] z transposes_S1024x8192_S8192x1024_1_0) shapeCasts_S8192x1024_S2x4096x1024

/-- A result, from the rows and the tables. -/
def result (h : S2x4096x1024.Idx → F .f32) (p : S4096.Idx → F .f32) (s : S5237.Idx → F .f32) (f : S512.Idx → F .f32) (r c : S5237.Idx → BitVec 32) : S2x4096x1024.Idx → F .f32 :=
  rows (last (skewM r c s) (cols (turned h p f)))

set_option maxRecDepth 16384 in
set_option maxHeartbeats 4000000 in
theorem res76 (m : (ℓ : Loc nD τ sig) → Buf (Elt F) ℓ) (c : Dev nD) :
    Value.res_main_v76 m c = result (m ((c.tc : Thread nD τ).loc main_arg0)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  delta Value.res_main_v76 result rows last step cols turned even odd cosT sinT spread angle skewM pairs column
  rfl

set_option maxRecDepth 16384 in
set_option maxHeartbeats 4000000 in
theorem res123 (m : (ℓ : Loc nD τ sig) → Buf (Elt F) ℓ) (c : Dev nD) :
    Value.res_main_v123 m c = result (m ((c.tc : Thread nD τ).loc main_arg1)) (m ((c.tc : Thread nD τ).loc main_arg2)) (m ((c.tc : Thread nD τ).loc main_arg3))
      (m ((c.tc : Thread nD τ).loc main_arg4)) (m ((c.tc : Thread nD τ).loc main_arg5)) (m ((c.tc : Thread nD τ).loc main_arg6)) := by
  delta Value.res_main_v123 result rows last step cols turned even odd cosT sinT spread angle skewM pairs column
  rfl

end Cert.Proof.Ref

end
-- ==== Proof.RefReal.lean ====
/-
  The reference program's results over the reals: the skew matrix of the entries, the turned rows, and their product with
  the transposed weight.
-/
module

public import proofs.«01_k».proof.Proof.RefVal
public import proofs.«01_k».proof.Proof.Algebra
public import Idealize.ShloMosaic.Lib.Pointwise
public import Idealize.ShloMosaic.Lib.Pointwise.Contract
public import Idealize.ShloMosaic.Lib.Routing.OpsPair

@[expose] public section

noncomputable section

namespace Cert.Proof.Ref

open Cert.ReferenceIdeal Cert.ReferenceIdeal.Gen Idealize.ShloMosaic

/-! ## The skew matrix -/

/-- A word below 2³¹ is the number it is read as, signed or not. -/
theorem toInt_eq {w : BitVec 32} (h : w.toNat < 1024) : w.toInt = (w.toNat : Int) := by
  rw [BitVec.toInt_eq_toNat_cond]
  split <;> omega

theorem pairs_left (r c : S5237.Idx → BitVec 32) (hr : ∀ e, (r e).toNat < 1024) (e : Fin 5237) : (pairs (column r) (column c) (ix2 e (0 : Fin 2))) = r (ix1 e) := by
  pointwise [pairs, column]
  exact Routing.wrap_of_lt _ _ (by have := hr (ix1 e); omega)

theorem pairs_right (r c : S5237.Idx → BitVec 32) (hc : ∀ e, (c e).toNat < 1024) (e : Fin 5237) : (pairs (column r) (column c) (ix2 e (1 : Fin 2))) = c (ix1 e) := by
  pointwise [pairs, column]
  exact Routing.wrap_of_lt _ _ (by have := hc (ix1 e); omega)

abbrev sd : ScatterDims S1024x1024 S5237x2 S5237 := scatter_S1024x1024_S5237x2_S5237_n_01_01_1

theorem start0 (e : Fin 5237) (idx : IVec S5237x2 32) : sd.start (ix1 e) idx 0 = (idx (ix2 e (0 : Fin 2))).toInt := by
  unfold ScatterDims.start
  rw [dif_pos (by decide)]
  congr 2
  funext b
  match b with
  | ⟨0, _⟩ => rfl
  | ⟨1, _⟩ => rfl

theorem start1 (e : Fin 5237) (idx : IVec S5237x2 32) : sd.start (ix1 e) idx 1 = (idx (ix2 e (1 : Fin 2))).toInt := by
  unfold ScatterDims.start
  rw [dif_pos (by decide)]
  congr 2
  funext b
  match b with
  | ⟨0, _⟩ => rfl
  | ⟨1, _⟩ => rfl

theorem window0 (e : S5237.Idx) (a : Fin 2) : sd.window e a = 0 := by
  unfold ScatterDims.window
  rw [dif_neg (by revert a; decide)]

/-- An update lands at the place its two words name. -/
theorem lands (idx : IVec S5237x2 32) (e : Fin 5237) (R C : Fin 1024) :
    sd.resultIdx? (ix1 e) idx = some (ix2 R C) ↔ (idx (ix2 e (0 : Fin 2))).toInt = R.val ∧ (idx (ix2 e (1 : Fin 2))).toInt = C.val := by
  rw [Routing.resultIdx?_eq_some]
  constructor
  · intro h
    have h0 := h 0
    have h1 := h 1
    rw [start0, window0] at h0
    rw [start1, window0] at h1
    exact ⟨by simpa using h0, by simpa using h1⟩
  · rintro ⟨h0, h1⟩ a
    match a with
    | ⟨0, _⟩ => exact (congrArg₂ (· + ·) (start0 e idx) (congrArg Nat.cast (window0 _ 0))).trans ((add_zero _).trans h0)
    | ⟨1, _⟩ => exact (congrArg₂ (· + ·) (start1 e idx) (congrArg Nat.cast (window0 _ 1))).trans ((add_zero _).trans h1)

theorem lands_pairs (r c : S5237.Idx → BitVec 32) (hr : ∀ e, (r e).toNat < 1024) (hc : ∀ e, (c e).toNat < 1024) (e : S5237.Idx) (R C : Fin 1024) :
    sd.resultIdx? e (pairs (column r) (column c)) = some (ix2 R C) ↔ (r e).toNat = R.val ∧ (c e).toNat = C.val := by
  obtain ⟨e, rfl⟩ : ∃ e' : Fin 5237, e = ix1 e' := ⟨e 0, eq_ix1 e⟩
  rw [lands, pairs_left r c hr, pairs_right r c hc, toInt_eq (hr _), toInt_eq (hc _)]
  exact and_congr Int.natCast_inj Int.natCast_inj

theorem scatter_sum (x : S1024x1024.Idx → EReal) (r c : S5237.Idx → BitVec 32) (hr : ∀ e, (r e).toNat < 1024) (hc : ∀ e, (c e).toNat < 1024)
    (u : S5237.Idx → EReal) (v : S5237.Idx → ℝ) (hu : Reals u v) (R C : Fin 1024) :
    Host.scatterAdd (F := Ideal) (φ := .f32) sd x (pairs (column r) (column c)) u (ix2 R C)
      = x (ix2 R C) + ((∑ e, if (r e).toNat = R.val ∧ (c e).toNat = C.val then v e else 0 : ℝ) : EReal) := by
  show Ideal.hostScatterAdd sd x (pairs (column r) (column c)) u (ix2 R C) = _
  unfold Ideal.hostScatterAdd
  refine congrArg (x (ix2 R C) + ·) ?_
  rw [coe_sum, Finset.sum_filter]
  refine Finset.sum_congr rfl fun e _ => ?_
  by_cases h : (r e).toNat = R.val ∧ (c e).toNat = C.val
  · rw [if_pos ((lands_pairs r c hr hc e R C).2 h), if_pos h, hu e]
  · rw [if_neg fun q => h ((lands_pairs r c hr hc e R C).1 q), if_neg h, EReal.coe_zero]

/-- The reference's matrix is the entries' skew matrix. -/
theorem skewM_holds (r c : S5237.Idx → BitVec 32) (hr : ∀ e, (r e).toNat < 1024) (hc : ∀ e, (c e).toNat < 1024)
    (u : S5237.Idx → EReal) (v : S5237.Idx → ℝ) (hu : Reals u v) :
    Holds (skewM (F := Ideal) r c u) (skewOf (fun e => (r e).toNat) (fun e => (c e).toNat) v) := by
  intro R C
  have hn : Reals (Host.negf (F := Ideal) (φ := .f32) u) fun e => -v e := fun e => by
    show -(u e) = _
    rw [hu e, EReal.coe_neg]
  have h0 : (broadcastInDim S1024x1024 ![] bcast_S_S1024x1024 (constant (F := Ideal) S_ .f32 0x00000000#32)) (ix2 R C) = ((0 : ℝ) : EReal) := zero_bits
  unfold skewM
  rw [scatter_sum _ c r hc hr _ _ hn, scatter_sum _ r c hr hc _ _ hu, h0, ← EReal.coe_add, ← EReal.coe_add, zero_add]
  refine congrArg Real.toEReal ?_
  unfold skewOf
  rw [sub_eq_add_neg, ← Finset.sum_neg_distrib]
  refine congrArg _ (Finset.sum_congr rfl fun e _ => ?_)
  split <;> simp

/-! ## The turned rows -/

/-- The turned rows as columns: lane `x` of row `t % 4096` of batch `t / 4096`. -/
def turnM (h : S2x4096x1024.Idx → ℝ) (p : S4096.Idx → ℝ) (f : S512.Idx → ℝ) : Matrix (Fin 1024) (Fin 8192) ℝ := fun x t =>
  turn (fun j => h (ix3 (⟨t.val / 4096, by omega⟩ : Fin 2) (⟨t.val % 4096, by omega⟩ : Fin 4096) j)) (fun i => p (ix1 (⟨t.val % 4096, by omega⟩ : Fin 4096)) * f (ix1 i)) x

section Turned

variable {h : S2x4096x1024.Idx → EReal} {p : S4096.Idx → EReal} {f : S512.Idx → EReal}
  {h' : S2x4096x1024.Idx → ℝ} {p' : S4096.Idx → ℝ} {f' : S512.Idx → ℝ} (hh : Reals h h') (hp : Reals p p') (hf : Reals f f')
include hh hp hf

theorem cols_holds : Holds (cols (F := Ideal) (turned (F := Ideal) h p f)) (turnM h' p' f') := by
  intro x t
  have hx := x.isLt
  by_cases hm : x.val % 2 = 0
  · have e1 : swap x = ⟨x.val / 2 * 2 + (1 + x.val % 2), by omega⟩ := by unfold swap; rw [dif_pos hm]; exact Fin.ext (by show x.val + 1 = x.val / 2 * 2 + (1 + x.val % 2); omega)
    rw [turnM, turn_even _ _ hm, e1]
    pointwise [cols, turned, even, odd, cosT, sinT, spread, angle]
    rw [dif_pos (show x.val % 2 < 1 by omega)]
    exact lift_even (hh _) (hh _) (hp _) (hf _)
  · have e1 : swap x = ⟨x.val / 2 * 2 + (x.val % 2 - 1), by omega⟩ := by unfold swap; rw [dif_neg hm]; exact Fin.ext (by show x.val - 1 = x.val / 2 * 2 + (x.val % 2 - 1); omega)
    have e2 : (⟨x.val / 2 * 2 + (1 + (x.val % 2 - 1)), by omega⟩ : Fin 1024) = x := Fin.ext (by show x.val / 2 * 2 + (1 + (x.val % 2 - 1)) = x.val; omega)
    rw [turnM, turn_odd _ _ hm, e1]
    pointwise [cols, turned, even, odd, cosT, sinT, spread, angle]
    rw [dif_neg (show ¬ x.val % 2 < 1 by omega)]
    exact lift_odd (hh _) ((hh _).trans (congrArg (fun y => ((h' (ix3 (⟨t.val / 4096, by omega⟩ : Fin 2) (⟨t.val % 4096, by omega⟩ : Fin 4096) y) : ℝ) : EReal)) e2)) (hp _) (hf _)

end Turned

/-! ## The steps -/

theorem step_holds {S : S1024x1024.Idx → EReal} {X : Matrix (Fin 1024) (Fin 1024) ℝ} (hS : Holds S X) {H : S1024x8192.Idx → EReal}
    {Y : Matrix (Fin 1024) (Fin 8192) ℝ} (hH : Holds H Y) {z : S1024x8192.Idx → EReal} {n : ℕ} (hz : Holds z (steps X Y n)) :
    Holds (step (F := Ideal) S H z) (steps X Y (n + 1)) := by
  intro i j
  pointwise [step]
  rw [sum_mul_coe hS hz, hH i j, ← EReal.coe_sub]
  rfl

theorem last_holds {S : S1024x1024.Idx → EReal} {X : Matrix (Fin 1024) (Fin 1024) ℝ} (hS : Holds S X) (hX : X.transpose = -X) {H : S1024x8192.Idx → EReal}
    {Y : Matrix (Fin 1024) (Fin 8192) ℝ} (hH : Holds H Y) : Holds (last (F := Ideal) S H) ((weight X).transpose * Y) := by
  have h0 : Holds H (steps X Y 0) := hH
  have h8 := step_holds hS hH (step_holds hS hH (step_holds hS hH (step_holds hS hH (step_holds hS hH (step_holds hS hH (step_holds hS hH (step_holds hS hH h0)))))))
  intro i j
  have e := congrFun (congrFun (two_steps_sub X hX Y) i) j
  rw [← e]
  show Ideal.ofBits .f32 0x40000000#32 * step S H _ (ix2 i j) - H (ix2 i j) = _
  rw [two_bits, h8 i j, hH i j, ← EReal.coe_mul, ← EReal.coe_sub]
  rfl

/-- A result's entry, over the reals. -/
theorem result_apply (r c : S5237.Idx → BitVec 32) (hr : ∀ e, (r e).toNat < 1024) (hc : ∀ e, (c e).toNat < 1024)
    {u : S5237.Idx → EReal} {v : S5237.Idx → ℝ} (hu : Reals u v) {h : S2x4096x1024.Idx → EReal} {p : S4096.Idx → EReal} {f : S512.Idx → EReal}
    {h' : S2x4096x1024.Idx → ℝ} {p' : S4096.Idx → ℝ} {f' : S512.Idx → ℝ} (hh : Reals h h') (hp : Reals p p') (hf : Reals f f')
    (b : Fin 2) (n : Fin 4096) (j : Fin 1024) :
    result (F := Ideal) h p u f r c (ix3 b n j)
      = ((∑ x, turn (fun j => h' (ix3 b n j)) (fun i => p' (ix1 n) * f' (ix1 i)) x * weight (skewOf (fun e => (r e).toNat) (fun e => (c e).toNat) v) x j : ℝ) : EReal) := by
  have hl := last_holds (skewM_holds r c hr hc u v hu) (skewOf_transpose _ _ _) (cols_holds hh hp hf)
  have e : result (F := Ideal) h p u f r c (ix3 b n j) = last (F := Ideal) (skewM (F := Ideal) r c u) (cols (F := Ideal) (turned (F := Ideal) h p f)) (ix2 j ⟨b.val * 4096 + n.val, by omega⟩) := by
    unfold result
    generalize last (F := Ideal) _ _ = z
    pointwise [rows]
  rw [e, hl, Matrix.mul_apply]
  refine congrArg Real.toEReal (Finset.sum_congr rfl fun x _ => ?_)
  rw [Matrix.transpose_apply, mul_comm]
  unfold turnM
  have e1 : (⟨(b.val * 4096 + n.val) / 4096, by omega⟩ : Fin 2) = b := Fin.ext (by show (b.val * 4096 + n.val) / 4096 = b.val; omega)
  have e2 : (⟨(b.val * 4096 + n.val) % 4096, by omega⟩ : Fin 4096) = n := Fin.ext (by show (b.val * 4096 + n.val) % 4096 = n.val; omega)
  simp only [e1, e2]

end Cert.Proof.Ref

end
-- ==== Proof.Agree.lean ====
/-
  The kernel and the reference agree over the reals: on both results, element by element.
-/
module

public import proofs.«01_k».proof.Proof.KerVal
public import proofs.«01_k».proof.Proof.RefReal
public import proofs.«01_k».proof.Proof.Frames

@[expose] public section

noncomputable section

namespace Cert.Proof

open Cert.KernelIdeal Cert.KernelIdeal.Gen Idealize.ShloMosaic Idealize.ShloMosaic.TcCoe Idealize.SL.Sem

section Values

variable (m : (ℓ : Loc nD τ sig) → Buf (Elt Ideal) ℓ) (d : Dev nD)

theorem fl_tabs : fl (tabs m) d = flat (F := Ideal) (padI (m ((d : Thread nD τ).loc main_arg5))) (padI (m ((d : Thread nD τ).loc main_arg6)))
    (padF (m ((d : Thread nD τ).loc main_arg3))) := by
  have hr : (tabs m).r d = padI (m ((d : Thread nD τ).loc main_arg5)) := after0_v1 (W0 m d)
  have hc : (tabs m).c d = padI (m ((d : Thread nD τ).loc main_arg6)) := after0_v3 (W0 m d)
  have hv : (tabs m).v d = padF (m ((d : Thread nD τ).loc main_arg3)) := after0_v5 (W0 m d)
  show flat _ _ _ = _
  rw [hr, hc, hv]

variable {q k : S2x4096x1024.Idx → EReal} {p : S4096.Idx → EReal} {s : S5237.Idx → EReal} {f : S512.Idx → EReal} {r c : S5237.Idx → BitVec 32}
  (hU : Pre.Upper q k p s f r c)
  (eq : m ((d : Thread nD τ).loc main_arg0) = q) (ek : m ((d : Thread nD τ).loc main_arg1) = k) (ep : m ((d : Thread nD τ).loc main_arg2) = p)
  (es : m ((d : Thread nD τ).loc main_arg3) = s) (ef : m ((d : Thread nD τ).loc main_arg4) = f)
  (er : m ((d : Thread nD τ).loc main_arg5) = r) (ec : m ((d : Thread nD τ).loc main_arg6) = c)

include hU ep es ef er ec in
/-- A block of rows rotated by the second dense kernel holds the reference's rows. -/
theorem rotated (t : Fin cfg2.N) (n : Fin 512) (x : Fin 1024) {h : S2x4096x1024.Idx → EReal} (hh : ∀ i, ∃ y : ℝ, h i = y) (b : S1x512x1024.Idx → EReal)
    (hb : ∀ x, b (ix3 (0 : Fin 1) n x) = h (ix3 (batch t) (place t n) x)) :
    rotate (F := Ideal) (posB (V5 m) d t) (freqB (V5 m) d t) (matB (V5 m) d t) b (ix3 (0 : Fin 1) n x)
      = Ref.result (F := Ideal) h p s f r c (ix3 (batch t) (place t n) x) := by
  choose h' hh' using hh
  choose p' hp' using hU.p
  choose s' hs' using hU.s
  choose f' hf' using hU.f
  have hS := flat_holds (r := r) (c := c) hU.lt hU.col hU.inj hs'
  have hm : matB (V5 m) d t = stack (F := Ideal) (k1_pay1 (shapeCast S1024x1024 (flat (F := Ideal) (padI r) (padI c) (padF s)) shapeCasts_S1048576_S1024x1024))
      (k1_pay2 (shapeCast S1024x1024 (flat (F := Ideal) (padI r) (padI c) (padF s)) shapeCasts_S1048576_S1024x1024)) := by
    rw [matB_eq, V5_v8, fl_tabs, er, ec, es]
    rfl
  rw [Ref.result_apply r c (fun e => (hU.lt e).trans (hU.col e)) hU.col hs' hh' hp' hf']
  rw [hm]
  unfold rotate
  refine pay6_apply (W := weight (skewOf (fun e => (r e).toNat) (fun e => (c e).toNat) s')) (fun i j => ?_) (fun i j => ?_) n x (p' (ix1 (place t n))) (fun i => f' (ix1 i)) (fun y => ?_)
    (fun j => h' (ix3 (batch t) (place t n) j)) fun y => ?_
  · rw [stack_top]; exact pay1_holds hS i j
  · rw [stack_bot]; exact pay2_holds hS i j
  · rw [← angle_sum hp' hf' (place t n) y]
    refine Finset.sum_congr rfl fun k _ => ?_
    rw [posB_apply, freqB_eq, V5_v47, V5_v65, ep, ef]
  · rw [hb, hh']

include hU eq ep es ef er ec in
theorem outQ_result : outQ (V5 m) d = Ref.result (F := Ideal) q p s f r c :=
  outQ_eq (V5 m) d _ fun t n x => rotated m d hU ep es ef er ec t n x hU.q _ fun y => by rw [qB_apply, V5_arg0, eq]

include hU ek ep es ef er ec in
theorem outK_result : outK (V5 m) d = Ref.result (F := Ideal) k p s f r c :=
  outK_eq (V5 m) d _ fun t n x => rotated m d hU ep es ef er ec t n x hU.k _ fun y => by rw [kB_apply, V5_arg1, ek]

end Values

theorem frame_reference_upper : Cert.quiescent_ReferenceIdeal_pre_distinct_upper := fun m ρ _ => frame_reference m ρ trivial

theorem algebraic : Cert.algebraic_KernelIdeal_ReferenceIdeal_pre_distinct_upper := fun m g m' g' hpre hargs => by
  refine ⟨fun c => outQ (V5 m) c, fun c => outK (V5 m) c,
    (θ_run Cert.KernelIdeal.defs _ _).mono (fun _ h => h.1) (run_args (F := Ideal) m g (rows_of_upper m hpre)), ?_⟩
  refine (θ_run Cert.ReferenceIdeal.defs _ _).mono (fun z h c => ?_) (Cert.ReferenceIdeal.Value.run (F := Ideal) m' g')
  obtain ⟨e0, e1, e2, e3, e4, e5, e6⟩ := hargs c
  have hU := upper m hpre c
  obtain ⟨h0, h1, h2⟩ := h c
  refine ⟨h0.trans ?_, h1.trans ?_, h2⟩
  · refine Eq.trans ?_ (outQ_result m c hU rfl rfl rfl rfl rfl rfl).symm
    refine (Ref.res76 m' c).trans ?_
    rw [e0, e2, e3, e4, e5, e6]
  · refine Eq.trans ?_ (outK_result m c hU rfl rfl rfl rfl rfl rfl).symm
    refine (Ref.res123 m' c).trans ?_
    rw [e1, e2, e3, e4, e5, e6]

end Cert.Proof

end
-- ==== Proof.lean ====
/-
  The certificate: the frames of the kernel, of its idealization and of the reference, and that kernel and reference
  compute the same two results over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Frames
public import proofs.«01_k».proof.Proof.Agree
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Pre_index_range.facts, Cert.Pre_distinct_upper.facts, frame_kernel, frame_ideal, frame_ideal_upper, frame_reference,
  frame_reference_upper, trivial, algebraic⟩

end Cert.Proof

end
